-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v35_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x14x16 : Shape := ⟨3, ![2, 14, 16]⟩
abbrev S2x896x16x256 : Shape := ⟨4, ![2, 896, 16, 256]⟩
abbrev S2x2x4352x128 : Shape := ⟨4, ![2, 2, 4352, 128]⟩
abbrev S2x2x56x64x128 : Shape := ⟨5, ![2, 2, 56, 64, 128]⟩
abbrev S2x2x14x8x128x128 : Shape := ⟨6, ![2, 2, 14, 8, 128, 128]⟩
abbrev S2x2x56x128x128 : Shape := ⟨5, ![2, 2, 56, 128, 128]⟩
abbrev S2x2x14x128x8 : Shape := ⟨5, ![2, 2, 14, 128, 8]⟩
abbrev S2x16x128x256 : Shape := ⟨4, ![2, 16, 128, 256]⟩
abbrev S_ : Shape := ⟨0, ![]⟩

class Facts : Prop where
  bcast_S_S2x14x16 : S_.BroadcastsInDim S2x14x16 (![] : Fin 0 → Fin S2x14x16.rank)
  bcast_S_S2x896x16x256 : S_.BroadcastsInDim S2x896x16x256 (![] : Fin 0 → Fin S2x896x16x256.rank)
  bcast_S_S2x2x4352x128 : S_.BroadcastsInDim S2x2x4352x128 (![] : Fin 0 → Fin S2x2x4352x128.rank)
  bcast_S_S2x2x56x64x128 : S_.BroadcastsInDim S2x2x56x64x128 (![] : Fin 0 → Fin S2x2x56x64x128.rank)
  bcast_S_S2x2x14x8x128x128 : S_.BroadcastsInDim S2x2x14x8x128x128 (![] : Fin 0 → Fin S2x2x14x8x128x128.rank)
  bcast_S_S2x2x56x128x128 : S_.BroadcastsInDim S2x2x56x128x128 (![] : Fin 0 → Fin S2x2x56x128x128.rank)
  bcast_S_S2x2x14x128x8 : S_.BroadcastsInDim S2x2x14x128x8 (![] : Fin 0 → Fin S2x2x14x128x8.rank)
  bcast_S_S2x16x128x256 : S_.BroadcastsInDim S2x16x128x256 (![] : Fin 0 → Fin S2x16x128x256.rank)

variable [Facts]

def fn_part1 {F : FTy → Type} [FloatOps F] (main_arg6 : FVec F S2x2x56x128x128 .bf16) (main_arg7 : FVec F S2x2x14x128x8 .f32) (main_arg8 : FVec F S2x16x128x256 .f32) (main_v2 : IVec S2x14x16 1) (main_v5 : IVec S2x14x16 1) (main_v8 : IVec S2x896x16x256 1) (main_v11 : IVec S2x2x4352x128 1) (main_v14 : IVec S2x2x56x64x128 1) (main_v17 : IVec S2x2x14x8x128x128 1) : IVec S2x14x16 1 × IVec S2x14x16 1 × IVec S2x896x16x256 1 × IVec S2x2x4352x128 1 × IVec S2x2x56x64x128 1 × IVec S2x2x14x8x128x128 1 × IVec S2x2x56x128x128 1 × IVec S2x2x14x128x8 1 × IVec S2x16x128x256 1 :=
  let main_v18 : FVec F S2x2x56x128x128 .bf16 := Host.absf main_arg6
  let main_cst_5 : FVec F S_ .bf16 := constant S_ .bf16 0x7F80#16
  let main_v19 : FVec F S2x2x56x128x128 .bf16 := broadcastInDim S2x2x56x128x128 ![] bcast_S_S2x2x56x128x128 main_cst_5
  let main_v20 : IVec S2x2x56x128x128 1 := cmpf .olt main_v18 main_v19
  let main_v21 : FVec F S2x2x14x128x8 .f32 := Host.absf main_arg7
  let main_cst_6 : FVec F S_ .f32 := constant S_ .f32 0x7F800000#32
  let main_v22 : FVec F S2x2x14x128x8 .f32 := broadcastInDim S2x2x14x128x8 ![] bcast_S_S2x2x14x128x8 main_cst_6
  let main_v23 : IVec S2x2x14x128x8 1 := cmpf .olt main_v21 main_v22
  let main_v24 : FVec F S2x16x128x256 .f32 := Host.absf main_arg8
  let main_cst_7 : FVec F S_ .f32 := constant S_ .f32 0x7F800000#32
  let main_v25 : FVec F S2x16x128x256 .f32 := broadcastInDim S2x16x128x256 ![] bcast_S_S2x16x128x256 main_cst_7
  let main_v26 : IVec S2x16x128x256 1 := cmpf .olt main_v24 main_v25
  (main_v2, main_v5, main_v8, main_v11, main_v14, main_v17, main_v20, main_v23, main_v26)

def fn {F : FTy → Type} [FloatOps F] (main_arg0 : FVec F S2x14x16 .f32) (main_arg1 : FVec F S2x14x16 .f32) (main_arg2 : FVec F S2x896x16x256 .bf16) (main_arg3 : FVec F S2x2x4352x128 .f32) (main_arg4 : FVec F S2x2x56x64x128 .f32) (main_arg5 : FVec F S2x2x14x8x128x128 .bf16) (main_arg6 : FVec F S2x2x56x128x128 .bf16) (main_arg7 : FVec F S2x2x14x128x8 .f32) (main_arg8 : FVec F S2x16x128x256 .f32) : IVec S2x14x16 1 × IVec S2x14x16 1 × IVec S2x896x16x256 1 × IVec S2x2x4352x128 1 × IVec S2x2x56x64x128 1 × IVec S2x2x14x8x128x128 1 × IVec S2x2x56x128x128 1 × IVec S2x2x14x128x8 1 × IVec S2x16x128x256 1 :=
  let main_v0 : FVec F S2x14x16 .f32 := Host.absf main_arg0
  let main_cst : FVec F S_ .f32 := constant S_ .f32 0x7F800000#32
  let main_v1 : FVec F S2x14x16 .f32 := broadcastInDim S2x14x16 ![] bcast_S_S2x14x16 main_cst
  let main_v2 : IVec S2x14x16 1 := cmpf .olt main_v0 main_v1
  let main_v3 : FVec F S2x14x16 .f32 := Host.absf main_arg1
  let main_cst_0 : FVec F S_ .f32 := constant S_ .f32 0x7F800000#32
  let main_v4 : FVec F S2x14x16 .f32 := broadcastInDim S2x14x16 ![] bcast_S_S2x14x16 main_cst_0
  let main_v5 : IVec S2x14x16 1 := cmpf .olt main_v3 main_v4
  let main_v6 : FVec F S2x896x16x256 .bf16 := Host.absf main_arg2
  let main_cst_1 : FVec F S_ .bf16 := constant S_ .bf16 0x7F80#16
  let main_v7 : FVec F S2x896x16x256 .bf16 := broadcastInDim S2x896x16x256 ![] bcast_S_S2x896x16x256 main_cst_1
  let main_v8 : IVec S2x896x16x256 1 := cmpf .olt main_v6 main_v7
  let main_v9 : FVec F S2x2x4352x128 .f32 := Host.absf main_arg3
  let main_cst_2 : FVec F S_ .f32 := constant S_ .f32 0x7F800000#32
  let main_v10 : FVec F S2x2x4352x128 .f32 := broadcastInDim S2x2x4352x128 ![] bcast_S_S2x2x4352x128 main_cst_2
  let main_v11 : IVec S2x2x4352x128 1 := cmpf .olt main_v9 main_v10
  let main_v12 : FVec F S2x2x56x64x128 .f32 := Host.absf main_arg4
  let main_cst_3 : FVec F S_ .f32 := constant S_ .f32 0x7F800000#32
  let main_v13 : FVec F S2x2x56x64x128 .f32 := broadcastInDim S2x2x56x64x128 ![] bcast_S_S2x2x56x64x128 main_cst_3
  let main_v14 : IVec S2x2x56x64x128 1 := cmpf .olt main_v12 main_v13
  let main_v15 : FVec F S2x2x14x8x128x128 .bf16 := Host.absf main_arg5
  let main_cst_4 : FVec F S_ .bf16 := constant S_ .bf16 0x7F80#16
  let main_v16 : FVec F S2x2x14x8x128x128 .bf16 := broadcastInDim S2x2x14x8x128x128 ![] bcast_S_S2x2x14x8x128x128 main_cst_4
  let main_v17 : IVec S2x2x14x8x128x128 1 := cmpf .olt main_v15 main_v16
  fn_part1 (F := F) main_arg6 main_arg7 main_arg8 main_v2 main_v5 main_v8 main_v11 main_v14 main_v17
-- ==== Kernel.lean ====
abbrev S2x14x16 : Shape := ⟨3, ![2, 14, 16]⟩
abbrev S2x896x16x256 : Shape := ⟨4, ![2, 896, 16, 256]⟩
abbrev S2x2x4352x128 : Shape := ⟨4, ![2, 2, 4352, 128]⟩
abbrev S2x2x56x64x128 : Shape := ⟨5, ![2, 2, 56, 64, 128]⟩
abbrev S2x2x14x8x128x128 : Shape := ⟨6, ![2, 2, 14, 8, 128, 128]⟩
abbrev S2x2x56x128x128 : Shape := ⟨5, ![2, 2, 56, 128, 128]⟩
abbrev S2x2x14x128x8 : Shape := ⟨5, ![2, 2, 14, 128, 8]⟩
abbrev S2x16x128x256 : Shape := ⟨4, ![2, 16, 128, 256]⟩
abbrev S14x2x16 : Shape := ⟨3, ![14, 2, 16]⟩
abbrev S2x896x4096 : Shape := ⟨3, ![2, 896, 4096]⟩
abbrev S1x896x8x256 : Shape := ⟨4, ![1, 896, 8, 256]⟩
abbrev S1x1x4352x128 : Shape := ⟨4, ![1, 1, 4352, 128]⟩
abbrev S1x1x56x64x128 : Shape := ⟨5, ![1, 1, 56, 64, 128]⟩
abbrev S1x1x14x8x128x128 : Shape := ⟨6, ![1, 1, 14, 8, 128, 128]⟩
abbrev S1x1x56x128x128 : Shape := ⟨5, ![1, 1, 56, 128, 128]⟩
abbrev S1x1x14x128x8 : Shape := ⟨5, ![1, 1, 14, 128, 8]⟩
abbrev S1x8x128x256 : Shape := ⟨4, ![1, 8, 128, 256]⟩
abbrev S1x896x2048 : Shape := ⟨3, ![1, 896, 2048]⟩
abbrev S2x576x128 : Shape := ⟨3, ![2, 576, 128]⟩
abbrev S1x1x8x256 : Shape := ⟨4, ![1, 1, 8, 256]⟩
abbrev S8x256 : Shape := ⟨2, ![8, 256]⟩
abbrev S8x128 : Shape := ⟨2, ![8, 128]⟩
abbrev S1x8x128 : Shape := ⟨3, ![1, 8, 128]⟩
abbrev S1x1x1x128x8 : Shape := ⟨5, ![1, 1, 1, 128, 8]⟩
abbrev S128x8 : Shape := ⟨2, ![128, 8]⟩
abbrev S1x1x64x128 : Shape := ⟨4, ![1, 1, 64, 128]⟩
abbrev S64x128 : Shape := ⟨2, ![64, 128]⟩
abbrev S1x1x1x64x128 : Shape := ⟨5, ![1, 1, 1, 64, 128]⟩
abbrev S1x1x1x128x128 : Shape := ⟨5, ![1, 1, 1, 128, 128]⟩
abbrev S128x128 : Shape := ⟨2, ![128, 128]⟩
abbrev S64x64 : Shape := ⟨2, ![64, 64]⟩
abbrev S128x64 : Shape := ⟨2, ![128, 64]⟩
abbrev S64x256 : Shape := ⟨2, ![64, 256]⟩
abbrev S128x256 : Shape := ⟨2, ![128, 256]⟩
abbrev S256x256 : Shape := ⟨2, ![256, 256]⟩
abbrev S1x1x128x256 : Shape := ⟨4, ![1, 1, 128, 256]⟩
abbrev S1x1x1x1x128x128 : Shape := ⟨6, ![1, 1, 1, 1, 128, 128]⟩
abbrev S128x384 : Shape := ⟨2, ![128, 384]⟩
abbrev S384x256 : Shape := ⟨2, ![384, 256]⟩
abbrev S1x64x128 : Shape := ⟨3, ![1, 64, 128]⟩
abbrev S1x1x1 : Shape := ⟨3, ![1, 1, 1]⟩
abbrev S128x1 : Shape := ⟨2, ![128, 1]⟩
abbrev S1x64x256 : Shape := ⟨3, ![1, 64, 256]⟩

abbrev nBuf : Space → Nat
  | .hbm => 13
  | .vmem => 19
  | .smem => 2
  | _ => 0

abbrev bufTy : (tb : Table) → Fin (tcTables nBuf tb) → BufTy
  | .hbm, ⟨0, _⟩ => ⟨S2x14x16, .f32⟩
  | .hbm, ⟨1, _⟩ => ⟨S2x14x16, .f32⟩
  | .hbm, ⟨2, _⟩ => ⟨S2x896x16x256, .bf16⟩
  | .hbm, ⟨3, _⟩ => ⟨S2x2x4352x128, .f32⟩
  | .hbm, ⟨4, _⟩ => ⟨S2x2x56x64x128, .f32⟩
  | .hbm, ⟨5, _⟩ => ⟨S2x2x14x8x128x128, .bf16⟩
  | .hbm, ⟨6, _⟩ => ⟨S2x2x56x128x128, .bf16⟩
  | .hbm, ⟨7, _⟩ => ⟨S2x2x14x128x8, .f32⟩
  | .hbm, ⟨8, _⟩ => ⟨S2x16x128x256, .f32⟩
  | .hbm, ⟨9, _⟩ => ⟨S14x2x16, .f32⟩
  | .hbm, ⟨10, _⟩ => ⟨S14x2x16, .f32⟩
  | .hbm, ⟨11, _⟩ => ⟨S2x896x4096, .bf16⟩
  | .hbm, ⟨12, _⟩ => ⟨S2x16x128x256, .f32⟩
  | .local _ .vmem, ⟨0, _⟩ => ⟨S1x896x8x256, .bf16⟩
  | .local _ .vmem, ⟨1, _⟩ => ⟨S1x896x8x256, .bf16⟩
  | .local _ .vmem, ⟨2, _⟩ => ⟨S1x1x4352x128, .f32⟩
  | .local _ .vmem, ⟨3, _⟩ => ⟨S1x1x4352x128, .f32⟩
  | .local _ .vmem, ⟨4, _⟩ => ⟨S1x1x56x64x128, .f32⟩
  | .local _ .vmem, ⟨5, _⟩ => ⟨S1x1x56x64x128, .f32⟩
  | .local _ .vmem, ⟨6, _⟩ => ⟨S1x1x14x8x128x128, .bf16⟩
  | .local _ .vmem, ⟨7, _⟩ => ⟨S1x1x14x8x128x128, .bf16⟩
  | .local _ .vmem, ⟨8, _⟩ => ⟨S1x1x56x128x128, .bf16⟩
  | .local _ .vmem, ⟨9, _⟩ => ⟨S1x1x56x128x128, .bf16⟩
  | .local _ .vmem, ⟨10, _⟩ => ⟨S1x1x14x128x8, .f32⟩
  | .local _ .vmem, ⟨11, _⟩ => ⟨S1x1x14x128x8, .f32⟩
  | .local _ .vmem, ⟨12, _⟩ => ⟨S1x8x128x256, .f32⟩
  | .local _ .vmem, ⟨13, _⟩ => ⟨S1x8x128x256, .f32⟩
  | .local _ .vmem, ⟨14, _⟩ => ⟨S1x896x2048, .bf16⟩
  | .local _ .vmem, ⟨15, _⟩ => ⟨S1x896x2048, .bf16⟩
  | .local _ .vmem, ⟨16, _⟩ => ⟨S1x8x128x256, .f32⟩
  | .local _ .vmem, ⟨17, _⟩ => ⟨S1x8x128x256, .f32⟩
  | .local _ .vmem, ⟨18, _⟩ => ⟨S2x576x128, .f32⟩
  | .local _ .smem, ⟨0, _⟩ => ⟨S14x2x16, .f32⟩
  | .local _ .smem, ⟨1, _⟩ => ⟨S14x2x16, .f32⟩
  | _, _ => ⟨S2x14x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c14_i32 : BitVec 32 := 14#32
  let v3 : BitVec 32 := Scalar.addi c0_i32 c14_i32
  let c1_i32 : BitVec 32 := 1#32
  ⟨c0_i32, v3, c1_i32⟩
def k0_off1 (k0_t1 : Fin k0_t1_loop.trips) (c0_i32_8 : BitVec 32) : Fin 4 → Nat :=
  let c0_9 : Index := 0#32
  let c0_i32 : BitVec 32 := 0#32
  let c1_i32 : BitVec 32 := 1#32
  let arg14 : BitVec 32 := Scf.iv c0_i32 c1_i32 k0_t1
  let c64_i32 : BitVec 32 := 64#32
  let v4 : BitVec 32 := Scalar.muli arg14 c64_i32
  let v5 : BitVec 32 := Scalar.addi v4 c0_i32_8
  let v6 : Index := Scalar.indexCast v5
  let c0_10 : Index := 0#32
  let c0_11 : Index := 0#32
  ![0, v6.toNat, 0, 0]
def k0_off2 (k0_t1 : Fin k0_t1_loop.trips) : Fin 5 → Nat :=
  let c0_587 : Index := 0#32
  let c0_588 : Index := 0#32
  let c0_i32 : BitVec 32 := 0#32
  let c1_i32 : BitVec 32 := 1#32
  let arg14 : BitVec 32 := Scf.iv c0_i32 c1_i32 k0_t1
  let v900 : Index := Scalar.indexCast arg14
  let c0_589 : Index := 0#32
  let c0_590 : Index := 0#32
  ![0, 0, v900.toNat, 0, 0]
def k0_off3 (k0_t1 : Fin k0_t1_loop.trips) (c0_i32_592 : BitVec 32) : Fin 4 → Nat :=
  let c0_593 : Index := 0#32
  let c0_594 : Index := 0#32
  let c0_i32 : BitVec 32 := 0#32
  let c1_i32 : BitVec 32 := 1#32
  let arg14 : BitVec 32 := Scf.iv c0_i32 c1_i32 k0_t1
  let c4_i32_591 : BitVec 32 := 4#32
  let v903 : BitVec 32 := Scalar.muli arg14 c4_i32_591
  let v904 : BitVec 32 := Scalar.addi v903 c0_i32_592
  let v905 : Index := Scalar.indexCast v904
  let c0_595 : Index := 0#32
  ![0, 0, v905.toNat, 0]
def k0_off4 (k0_t1 : Fin k0_t1_loop.trips) (c0_i32_592 : BitVec 32) : Fin 5 → Nat :=
  let c0_596 : Index := 0#32
  let c0_597 : Index := 0#32
  let c0_i32 : BitVec 32 := 0#32
  let c1_i32 : BitVec 32 := 1#32
  let arg14 : BitVec 32 := Scf.iv c0_i32 c1_i32 k0_t1
  let c4_i32_591 : BitVec 32 := 4#32
  let v903 : BitVec 32 := Scalar.muli arg14 c4_i32_591
  let v904 : BitVec 32 := Scalar.addi v903 c0_i32_592
  let v915 : Index := Scalar.indexCast v904
  let c0_598 : Index := 0#32
  let c0_599 : Index := 0#32
  ![0, 0, v915.toNat, 0, 0]
def k0_off5 (k0_t1 : Fin k0_t1_loop.trips) (c0_i32_592 : BitVec 32) : Fin 5 → Nat :=
  let c0_600 : Index := 0#32
  let c0_601 : Index := 0#32
  let c0_i32 : BitVec 32 := 0#32
  let c1_i32 : BitVec 32 := 1#32
  let arg14 : BitVec 32 := Scf.iv c0_i32 c1_i32 k0_t1
  let c4_i32_591 : BitVec 32 := 4#32
  let v903 : BitVec 32 := Scalar.muli arg14 c4_i32_591
  let v904 : BitVec 32 := Scalar.addi v903 c0_i32_592
  let v925 : Index := Scalar.indexCast v904
  let c0_602 : Index := 0#32
  let c0_603 : Index := 0#32
  ![0, 0, v925.toNat, 0, 0]
def k0_off6 (k0_t1 : Fin k0_t1_loop.trips) : Fin 6 → Nat :=
  let c0_609 : Index := 0#32
  let c0_610 : Index := 0#32
  let c0_i32 : BitVec 32 := 0#32
  let c1_i32 : BitVec 32 := 1#32
  let arg14 : BitVec 32 := Scf.iv c0_i32 c1_i32 k0_t1
  let v946 : Index := Scalar.indexCast arg14
  let c0_611 : Index := 0#32
  let c0_612 : Index := 0#32
  let c0_613 : Index := 0#32
  ![0, 0, v946.toNat, 0, 0, 0]
def k0_off7 (i : grid0.Coords) (k0_t1 : Fin k0_t1_loop.trips) (c0_i32_621 : BitVec 32) : Fin 3 → Nat :=
  let c0_i32 : BitVec 32 := 0#32
  let c1_i32 : BitVec 32 := 1#32
  let arg14 : BitVec 32 := Scf.iv c0_i32 c1_i32 k0_t1
  let v965 : Index := Scalar.indexCast arg14
  let arg0 : BitVec 32 := BitVec.ofNat 32 (i 0).val
  let v966 : Index := Scalar.indexCast arg0
  let arg1 : BitVec 32 := BitVec.ofNat 32 (i 1).val
  let c8_i32 : BitVec 32 := 8#32
  let v0 : BitVec 32 := Scalar.muli arg1 c8_i32
  let v964 : BitVec 32 := Scalar.addi v0 c0_i32_621
  let v967 : Index := Scalar.indexCast v964
  ![v965.toNat, v966.toNat, v967.toNat]
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_630 : BitVec 32 := 64#32
  let v1016 : BitVec 32 := Scalar.muli arg14 c64_i32_630
  v1016
def k0_off8 (k0_t1 : Fin k0_t1_loop.trips) : Fin 3 → Nat :=
  let c0_631 : Index := 0#32
  let c0_i32 : BitVec 32 := 0#32
  let c1_i32 : BitVec 32 := 1#32
  let arg14 : BitVec 32 := Scf.iv c0_i32 c1_i32 k0_t1
  let c64_i32_630 : BitVec 32 := 64#32
  let v1016 : BitVec 32 := Scalar.muli arg14 c64_i32_630
  let v1017 : BitVec 32 := v1016
  let v1018 : Index := Scalar.indexCast v1017
  let c0_632 : Index := 0#32
  ![0, v1018.toNat, 0]
def k0_off9 (k0_t1 : Fin k0_t1_loop.trips) : Fin 6 → Nat :=
  let c0_638 : Index := 0#32
  let c0_639 : Index := 0#32
  let c0_i32 : BitVec 32 := 0#32
  let c1_i32 : BitVec 32 := 1#32
  let arg14 : BitVec 32 := Scf.iv c0_i32 c1_i32 k0_t1
  let v1040 : Index := Scalar.indexCast arg14
  let c4_640 : Index := 4#32
  let c0_641 : Index := 0#32
  let c0_642 : Index := 0#32
  ![0, 0, v1040.toNat, 4, 0, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_659 : BitVec 32 := 64#32
  let v1110 : BitVec 32 := Scalar.muli arg14 c64_i32_659
  v1110
def k0_off10 (k0_t1 : Fin k0_t1_loop.trips) : Fin 3 → Nat :=
  let c0_660 : Index := 0#32
  let c0_i32 : BitVec 32 := 0#32
  let c1_i32 : BitVec 32 := 1#32
  let arg14 : BitVec 32 := Scf.iv c0_i32 c1_i32 k0_t1
  let c64_i32_659 : BitVec 32 := 64#32
  let v1110 : BitVec 32 := Scalar.muli arg14 c64_i32_659
  let v1111 : BitVec 32 := v1110
  let v1112 : Index := Scalar.indexCast v1111
  let c1024 : Index := 1024#32
  ![0, v1112.toNat, 1024]
def k0_off11 (k0_t1 : Fin k0_t1_loop.trips) : Fin 6 → Nat :=
  let c0_680 : Index := 0#32
  let c0_681 : Index := 0#32
  let c0_i32 : BitVec 32 := 0#32
  let c1_i32 : BitVec 32 := 1#32
  let arg14 : BitVec 32 := Scf.iv c0_i32 c1_i32 k0_t1
  let v1159 : Index := Scalar.indexCast arg14
  let c1_682 : Index := 1#32
  let c0_683 : Index := 0#32
  let c0_684 : Index := 0#32
  ![0, 0, v1159.toNat, 1, 0, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_701 : BitVec 32 := 64#32
  let v1229 : BitVec 32 := Scalar.muli arg14 c64_i32_701
  v1229
def k0_off12 (k0_t1 : Fin k0_t1_loop.trips) : Fin 3 → Nat :=
  let c0_702 : Index := 0#32
  let c0_i32 : BitVec 32 := 0#32
  let c1_i32 : BitVec 32 := 1#32
  let arg14 : BitVec 32 := Scf.iv c0_i32 c1_i32 k0_t1
  let c64_i32_701 : BitVec 32 := 64#32
  let v1229 : BitVec 32 := Scalar.muli arg14 c64_i32_701
  let v1230 : BitVec 32 := v1229
  let v1231 : Index := Scalar.indexCast v1230
  let c256 : Index := 256#32
  ![0, v1231.toNat, 256]
def k0_off13 (k0_t1 : Fin k0_t1_loop.trips) : Fin 6 → Nat :=
  let c0_708 : Index := 0#32
  let c0_709 : Index := 0#32
  let c0_i32 : BitVec 32 := 0#32
  let c1_i32 : BitVec 32 := 1#32
  let arg14 : BitVec 32 := Scf.iv c0_i32 c1_i32 k0_t1
  let v1253 : Index := Scalar.indexCast arg14
  let c5_710 : Index := 5#32
  let c0_711 : Index := 0#32
  let c0_712 : Index := 0#32
  ![0, 0, v1253.toNat, 5, 0, 0]
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_729 : BitVec 32 := 64#32
  let v1323 : BitVec 32 := Scalar.muli arg14 c64_i32_729
  v1323
def k0_off14 (k0_t1 : Fin k0_t1_loop.trips) : Fin 3 → Nat :=
  let c0_730 : Index := 0#32
  let c0_i32 : BitVec 32 := 0#32
  let c1_i32 : BitVec 32 := 1#32
  let arg14 : BitVec 32 := Scf.iv c0_i32 c1_i32 k0_t1
  let c64_i32_729 : BitVec 32 := 64#32
  let v1323 : BitVec 32 := Scalar.muli arg14 c64_i32_729
  let v1324 : BitVec 32 := v1323
  let v1325 : Index := Scalar.indexCast v1324
  let c1280 : Index := 1280#32
  ![0, v1325.toNat, 1280]
def k0_off15 (k0_t1 : Fin k0_t1_loop.trips) : Fin 6 → Nat :=
  let c0_749 : Index := 0#32
  let c0_750 : Index := 0#32
  let c0_i32 : BitVec 32 := 0#32
  let c1_i32 : BitVec 32 := 1#32
  let arg14 : BitVec 32 := Scf.iv c0_i32 c1_i32 k0_t1
  let v1372 : Index := Scalar.indexCast arg14
  let c2_751 : Index := 2#32
  let c0_752 : Index := 0#32
  let c0_753 : Index := 0#32
  ![0, 0, v1372.toNat, 2, 0, 0]
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_770 : BitVec 32 := 64#32
  let v1442 : BitVec 32 := Scalar.muli arg14 c64_i32_770
  v1442
def k0_off16 (k0_t1 : Fin k0_t1_loop.trips) : Fin 3 → Nat :=
  let c0_771 : Index := 0#32
  let c0_i32 : BitVec 32 := 0#32
  let c1_i32 : BitVec 32 := 1#32
  let arg14 : BitVec 32 := Scf.iv c0_i32 c1_i32 k0_t1
  let c64_i32_770 : BitVec 32 := 64#32
  let v1442 : BitVec 32 := Scalar.muli arg14 c64_i32_770
  let v1443 : BitVec 32 := v1442
  let v1444 : Index := Scalar.indexCast v1443
  let c512 : Index := 512#32
  ![0, v1444.toNat, 512]
def k0_off17 (k0_t1 : Fin k0_t1_loop.trips) : Fin 6 → Nat :=
  let c0_777 : Index := 0#32
  let c0_778 : Index := 0#32
  let c0_i32 : BitVec 32 := 0#32
  let c1_i32 : BitVec 32 := 1#32
  let arg14 : BitVec 32 := Scf.iv c0_i32 c1_i32 k0_t1
  let v1466 : Index := Scalar.indexCast arg14
  let c6_779 : Index := 6#32
  let c0_780 : Index := 0#32
  let c0_781 : Index := 0#32
  ![0, 0, v1466.toNat, 6, 0, 0]
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_798 : BitVec 32 := 64#32
  let v1536 : BitVec 32 := Scalar.muli arg14 c64_i32_798
  v1536
def k0_off18 (k0_t1 : Fin k0_t1_loop.trips) : Fin 3 → Nat :=
  let c0_799 : Index := 0#32
  let c0_i32 : BitVec 32 := 0#32
  let c1_i32 : BitVec 32 := 1#32
  let arg14 : BitVec 32 := Scf.iv c0_i32 c1_i32 k0_t1
  let c64_i32_798 : BitVec 32 := 64#32
  let v1536 : BitVec 32 := Scalar.muli arg14 c64_i32_798
  let v1537 : BitVec 32 := v1536
  let v1538 : Index := Scalar.indexCast v1537
  let c1536 : Index := 1536#32
  ![0, v1538.toNat, 1536]
def k0_off19 (k0_t1 : Fin k0_t1_loop.trips) : Fin 6 → Nat :=
  let c0_818 : Index := 0#32
  let c0_819 : Index := 0#32
  let c0_i32 : BitVec 32 := 0#32
  let c1_i32 : BitVec 32 := 1#32
  let arg14 : BitVec 32 := Scf.iv c0_i32 c1_i32 k0_t1
  let v1585 : Index := Scalar.indexCast arg14
  let c3_820 : Index := 3#32
  let c0_821 : Index := 0#32
  let c0_822 : Index := 0#32
  ![0, 0, v1585.toNat, 3, 0, 0]
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_839 : BitVec 32 := 64#32
  let v1655 : BitVec 32 := Scalar.muli arg14 c64_i32_839
  v1655
def k0_off20 (k0_t1 : Fin k0_t1_loop.trips) : Fin 3 → Nat :=
  let c0_840 : Index := 0#32
  let c0_i32 : BitVec 32 := 0#32
  let c1_i32 : BitVec 32 := 1#32
  let arg14 : BitVec 32 := Scf.iv c0_i32 c1_i32 k0_t1
  let c64_i32_839 : BitVec 32 := 64#32
  let v1655 : BitVec 32 := Scalar.muli arg14 c64_i32_839
  let v1656 : BitVec 32 := v1655
  let v1657 : Index := Scalar.indexCast v1656
  let c768 : Index := 768#32
  ![0, v1657.toNat, 768]
def k0_off21 (k0_t1 : Fin k0_t1_loop.trips) : Fin 6 → Nat :=
  let c0_846 : Index := 0#32
  let c0_847 : Index := 0#32
  let c0_i32 : BitVec 32 := 0#32
  let c1_i32 : BitVec 32 := 1#32
  let arg14 : BitVec 32 := Scf.iv c0_i32 c1_i32 k0_t1
  let v1679 : Index := Scalar.indexCast arg14
  let c7_848 : Index := 7#32
  let c0_849 : Index := 0#32
  let c0_850 : Index := 0#32
  ![0, 0, v1679.toNat, 7, 0, 0]
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32_867 : BitVec 32 := 64#32
  let v1749 : BitVec 32 := Scalar.muli arg14 c64_i32_867
  v1749
def k0_off22 (k0_t1 : Fin k0_t1_loop.trips) : Fin 3 → Nat :=
  let c0_868 : Index := 0#32
  let c0_i32 : BitVec 32 := 0#32
  let c1_i32 : BitVec 32 := 1#32
  let arg14 : BitVec 32 := Scf.iv c0_i32 c1_i32 k0_t1
  let c64_i32_867 : BitVec 32 := 64#32
  let v1749 : BitVec 32 := Scalar.muli arg14 c64_i32_867
  let v1750 : BitVec 32 := v1749
  let v1751 : Index := Scalar.indexCast v1750
  let c1792 : Index := 1792#32
  ![0, v1751.toNat, 1792]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S14x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S14x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x896x8x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4352x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x56x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x14x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x56x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x14x128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x896x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x14x16 : Shape := ⟨3, ![2, 14, 16]⟩
abbrev S2x896x16x256 : Shape := ⟨4, ![2, 896, 16, 256]⟩
abbrev S2x2x4352x128 : Shape := ⟨4, ![2, 2, 4352, 128]⟩
abbrev S2x2x56x64x128 : Shape := ⟨5, ![2, 2, 56, 64, 128]⟩
abbrev S2x2x14x8x128x128 : Shape := ⟨6, ![2, 2, 14, 8, 128, 128]⟩
abbrev S2x2x56x128x128 : Shape := ⟨5, ![2, 2, 56, 128, 128]⟩
abbrev S2x2x14x128x8 : Shape := ⟨5, ![2, 2, 14, 128, 8]⟩
abbrev S2x16x128x256 : Shape := ⟨4, ![2, 16, 128, 256]⟩
abbrev S2x2x64x68x2x64 : Shape := ⟨6, ![2, 2, 64, 68, 2, 64]⟩
abbrev S2x2x64x56x2x64 : Shape := ⟨6, ![2, 2, 64, 56, 2, 64]⟩
abbrev S2x2x64x14x4x2x64 : Shape := ⟨7, ![2, 2, 64, 14, 4, 2, 64]⟩
abbrev S14x2x2x2x4x64x64 : Shape := ⟨7, ![14, 2, 2, 2, 4, 64, 64]⟩
abbrev S14x2x16x64x64 : Shape := ⟨5, ![14, 2, 16, 64, 64]⟩
abbrev S2x2x14x4x64x2x64 : Shape := ⟨7, ![2, 2, 14, 4, 64, 2, 64]⟩
abbrev S2x2x14x4x128x2x64 : Shape := ⟨7, ![2, 2, 14, 4, 128, 2, 64]⟩
abbrev S14x2x2x2x4x128x64 : Shape := ⟨7, ![14, 2, 2, 2, 4, 128, 64]⟩
abbrev S14x2x16x128x64 : Shape := ⟨5, ![14, 2, 16, 128, 64]⟩
abbrev S14x2x2x8x128x128 : Shape := ⟨6, ![14, 2, 2, 8, 128, 128]⟩
abbrev S14x2x16x128x128 : Shape := ⟨5, ![14, 2, 16, 128, 128]⟩
abbrev S14x2x16x64x128 : Shape := ⟨5, ![14, 2, 16, 64, 128]⟩
abbrev S14x2x2x8x128 : Shape := ⟨5, ![14, 2, 2, 8, 128]⟩
abbrev S14x2x16x128 : Shape := ⟨4, ![14, 2, 16, 128]⟩
abbrev S2x14x64x16x256 : Shape := ⟨5, ![2, 14, 64, 16, 256]⟩
abbrev S14x2x16x64x256 : Shape := ⟨5, ![14, 2, 16, 64, 256]⟩
abbrev S14x2x16 : Shape := ⟨3, ![14, 2, 16]⟩
abbrev S14x2x16x1x1 : Shape := ⟨5, ![14, 2, 16, 1, 1]⟩
abbrev S_ : Shape := ⟨0, ![]⟩
abbrev S1x2x16x64x128 : Shape := ⟨5, ![1, 2, 16, 64, 128]⟩
abbrev S2x16x64x128 : Shape := ⟨4, ![2, 16, 64, 128]⟩
abbrev S1x2x16x64x256 : Shape := ⟨5, ![1, 2, 16, 64, 256]⟩
abbrev S2x16x64x256 : Shape := ⟨4, ![2, 16, 64, 256]⟩
abbrev S1x2x16x64x64 : Shape := ⟨5, ![1, 2, 16, 64, 64]⟩
abbrev S2x16x64x64 : Shape := ⟨4, ![2, 16, 64, 64]⟩
abbrev S1x2x16x128x64 : Shape := ⟨5, ![1, 2, 16, 128, 64]⟩
abbrev S2x16x128x64 : Shape := ⟨4, ![2, 16, 128, 64]⟩
abbrev S1x2x16x128 : Shape := ⟨4, ![1, 2, 16, 128]⟩
abbrev S2x16x128 : Shape := ⟨3, ![2, 16, 128]⟩
abbrev S2x16x128x1 : Shape := ⟨4, ![2, 16, 128, 1]⟩
abbrev S2x896x4096 : Shape := ⟨3, ![2, 896, 4096]⟩

abbrev nBuf : Space → Nat
  | .hbm => 116
  | .vmem => 0
  | .smem => 0
  | _ => 0

abbrev bufTy : (tb : Table) → Fin (tcTables nBuf tb) → BufTy
  | .hbm, ⟨0, _⟩ => ⟨S2x14x16, .f32⟩
  | .hbm, ⟨1, _⟩ => ⟨S2x14x16, .f32⟩
  | .hbm, ⟨2, _⟩ => ⟨S2x896x16x256, .bf16⟩
  | .hbm, ⟨3, _⟩ => ⟨S2x2x4352x128, .f32⟩
  | .hbm, ⟨4, _⟩ => ⟨S2x2x56x64x128, .f32⟩
  | .hbm, ⟨5, _⟩ => ⟨S2x2x14x8x128x128, .bf16⟩
  | .hbm, ⟨6, _⟩ => ⟨S2x2x56x128x128, .bf16⟩
  | .hbm, ⟨7, _⟩ => ⟨S2x2x14x128x8, .f32⟩
  | .hbm, ⟨8, _⟩ => ⟨S2x16x128x256, .f32⟩
  | .hbm, ⟨9, _⟩ => ⟨S2x2x64x68x2x64, .f32⟩
  | .hbm, ⟨10, _⟩ => ⟨S2x2x64x56x2x64, .f32⟩
  | .hbm, ⟨11, _⟩ => ⟨S2x2x64x14x4x2x64, .f32⟩
  | .hbm, ⟨12, _⟩ => ⟨S14x2x2x2x4x64x64, .f32⟩
  | .hbm, ⟨13, _⟩ => ⟨S14x2x16x64x64, .f32⟩
  | .hbm, ⟨14, _⟩ => ⟨S2x2x14x4x64x2x64, .f32⟩
  | .hbm, ⟨15, _⟩ => ⟨S14x2x2x2x4x64x64, .f32⟩
  | .hbm, ⟨16, _⟩ => ⟨S14x2x16x64x64, .f32⟩
  | .hbm, ⟨17, _⟩ => ⟨S2x2x14x4x128x2x64, .bf16⟩
  | .hbm, ⟨18, _⟩ => ⟨S14x2x2x2x4x128x64, .bf16⟩
  | .hbm, ⟨19, _⟩ => ⟨S14x2x16x128x64, .bf16⟩
  | .hbm, ⟨20, _⟩ => ⟨S14x2x2x8x128x128, .bf16⟩
  | .hbm, ⟨21, _⟩ => ⟨S14x2x16x128x128, .bf16⟩
  | .hbm, ⟨22, _⟩ => ⟨S14x2x16x128x128, .f32⟩
  | .hbm, ⟨23, _⟩ => ⟨S14x2x16x64x128, .f32⟩
  | .hbm, ⟨24, _⟩ => ⟨S14x2x16x64x128, .f32⟩
  | .hbm, ⟨25, _⟩ => ⟨S14x2x2x8x128, .f32⟩
  | .hbm, ⟨26, _⟩ => ⟨S14x2x16x128, .f32⟩
  | .hbm, ⟨27, _⟩ => ⟨S2x14x64x16x256, .bf16⟩
  | .hbm, ⟨28, _⟩ => ⟨S14x2x16x64x256, .bf16⟩
  | .hbm, ⟨29, _⟩ => ⟨S14x2x16x64x256, .f32⟩
  | .hbm, ⟨30, _⟩ => ⟨S14x2x16, .f32⟩
  | .hbm, ⟨31, _⟩ => ⟨S14x2x16x1x1, .f32⟩
  | .hbm, ⟨32, _⟩ => ⟨S14x2x16, .f32⟩
  | .hbm, ⟨33, _⟩ => ⟨S14x2x16x1x1, .f32⟩
  | .hbm, ⟨34, _⟩ => ⟨S14x2x16x64x128, .f32⟩
  | .hbm, ⟨35, _⟩ => ⟨S14x2x16x64x128, .f32⟩
  | .hbm, ⟨36, _⟩ => ⟨S14x2x16x64x128, .f32⟩
  | .hbm, ⟨37, _⟩ => ⟨S14x2x16x64x256, .f32⟩
  | .hbm, ⟨38, _⟩ => ⟨S14x2x16x64x128, .f32⟩
  | .hbm, ⟨39, _⟩ => ⟨S14x2x16x64x128, .f32⟩
  | .hbm, ⟨40, _⟩ => ⟨S14x2x16x64x64, .f32⟩
  | .hbm, ⟨41, _⟩ => ⟨S14x2x16x64x64, .f32⟩
  | .hbm, ⟨42, _⟩ => ⟨S14x2x16x128x64, .f32⟩
  | .hbm, ⟨43, _⟩ => ⟨S_, .f32⟩
  | .hbm, ⟨44, _⟩ => ⟨S14x2x16x64x256, .f32⟩
  | .hbm, ⟨45, _⟩ => ⟨S_, .i32⟩
  | .hbm, ⟨46, _⟩ => ⟨S14x2x16x64x128, .f32⟩
  | .hbm, ⟨47, _⟩ => ⟨S14x2x16x64x128, .f32⟩
  | .hbm, ⟨48, _⟩ => ⟨S14x2x16x64x256, .f32⟩
  | .hbm, ⟨49, _⟩ => ⟨S14x2x16x64x64, .f32⟩
  | .hbm, ⟨50, _⟩ => ⟨S14x2x16x128x64, .f32⟩
  | .hbm, ⟨51, _⟩ => ⟨S14x2x16x128, .f32⟩
  | .hbm, ⟨52, _⟩ => ⟨S_, .i32⟩
  | .hbm, ⟨53, _⟩ => ⟨S2x16x128x256, .f32⟩
  | .hbm, ⟨54, _⟩ => ⟨S14x2x16x64x256, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x2x16x64x128, .f32⟩
  | .hbm, ⟨62, _⟩ => ⟨S2x16x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x2x16x64x128, .f32⟩
  | .hbm, ⟨68, _⟩ => ⟨S2x16x64x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x16x64x256, .f32⟩
  | .hbm, ⟨74, _⟩ => ⟨S2x16x64x256, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x2x16x64x64, .f32⟩
  | .hbm, ⟨80, _⟩ => ⟨S2x16x64x64, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x2x16x128x64, .f32⟩
  | .hbm, ⟨86, _⟩ => ⟨S2x16x128x64, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x2x16x128, .f32⟩
  | .hbm, ⟨91, _⟩ => ⟨S2x16x128, .f32⟩
  | .hbm, ⟨92, _⟩ => ⟨S2x16x64x256, .f32⟩
  | .hbm, ⟨93, _⟩ => ⟨S2x16x64x256, .f32⟩
  | .hbm, ⟨94, _⟩ => ⟨S2x16x64x256, .f32⟩
  | .hbm, ⟨95, _⟩ => ⟨S2x16x64x256, .f32⟩
  | .hbm, ⟨96, _⟩ => ⟨S2x16x64x256, .f32⟩
  | .hbm, ⟨97, _⟩ => ⟨S_, .f32⟩
  | .hbm, ⟨98, _⟩ => ⟨S2x16x64x256, .f32⟩
  | .hbm, ⟨99, _⟩ => ⟨S2x16x64x256, .f32⟩
  | .hbm, ⟨100, _⟩ => ⟨S2x16x128x1, .f32⟩
  | .hbm, ⟨101, _⟩ => ⟨S2x16x128x256, .f32⟩
  | .hbm, ⟨102, _⟩ => ⟨S2x16x128x256, .f32⟩
  | .hbm, ⟨103, _⟩ => ⟨S2x16x128x256, .f32⟩
  | .hbm, ⟨104, _⟩ => ⟨S2x16x128x256, .f32⟩
  | .hbm, ⟨105, _⟩ => ⟨S1x2x16x64x256, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S14x2x16x64x256, .f32⟩
  | .hbm, ⟨111, _⟩ => ⟨S_, .i32⟩
  | .hbm, ⟨112, _⟩ => ⟨S_, .i32⟩
  | .hbm, ⟨113, _⟩ => ⟨S2x14x64x16x256, .f32⟩
  | .hbm, ⟨114, _⟩ => ⟨S2x896x4096, .f32⟩
  | .hbm, ⟨115, _⟩ => ⟨S2x896x4096, .bf16⟩
  | _, _ => ⟨S2x14x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_c : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev main_v35_6 : Ref sig .tc := ⟨.hbm, 52, rfl⟩
abbrev main_v35_7 : Ref sig .tc := ⟨.hbm, 53, rfl⟩
abbrev main_v35_8 : Ref sig .tc := ⟨.hbm, 54, rfl⟩
abbrev main_while0c_c_8 : Ref sig .tc := ⟨.hbm, 55, rfl⟩
abbrev main_while0c_v39 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_c_2 : Ref sig .tc := ⟨.hbm, 60, rfl⟩
abbrev main_while0b_call0_v0 : Ref sig .tc := ⟨.hbm, 61, rfl⟩
abbrev main_while0b_v39 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v0 : Ref sig .tc := ⟨.hbm, 67, rfl⟩
abbrev main_while0b_v40 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_call2_v0 : Ref sig .tc := ⟨.hbm, 73, rfl⟩
abbrev main_while0b_v41 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v42 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_v0 : Ref sig .tc := ⟨.hbm, 85, rfl⟩
abbrev main_while0b_v43 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_v0 : Ref sig .tc := ⟨.hbm, 90, rfl⟩
abbrev main_while0b_v44 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_cst_8 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_v57 : Ref sig .tc := ⟨.hbm, 110, rfl⟩
abbrev main_while0b_c_9 : Ref sig .tc := ⟨.hbm, 111, rfl⟩
abbrev main_while0b_v58 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩

abbrev nD : Nat := 1
abbrev τ : Topo := Topo.v7x

variable {F : FTy → Type} [FloatOps F]

abbrev main_while0_count : Scf.Loop 32 := ⟨0#32, 14#32, 1#32⟩
-- ==== Proof.K.Step.lean ====
/-
  What one trip of the recurrence computes, as pure functions over any float operations: the three-term split of an
  f32 array into bf16 summands, the two stacked left operands, and the new state and the output block of one head.
-/
module

public import proofs.«01_k».proof.Proof.Gen.Kernel

@[expose] public section

noncomputable section

namespace Cert.Kernel.Hand

open Cert.Kernel Cert.Kernel.Gen
open Idealize.ShloMosaic

variable {F : FTy → Type} [FloatOps F]

/-- The first summand of the split: the array rounded to bf16. -/
def split0 {s : Shape} (x : FVec F s .f32) : FVec F s .bf16 := truncf .bf16 x bitsLt_bf16_f32
/-- What the first summand leaves. -/
def rest1 {s : Shape} (x : FVec F s .f32) : FVec F s .f32 := subf x (extf .f32 (split0 x) bitsLt_bf16_f32)
/-- The second summand: what the first leaves, rounded. -/
def split1 {s : Shape} (x : FVec F s .f32) : FVec F s .bf16 := truncf .bf16 (rest1 x) bitsLt_bf16_f32
/-- The third summand: what the first two leave, rounded. -/
def split2 {s : Shape} (x : FVec F s .f32) : FVec F s .bf16 :=
  truncf .bf16 (subf (rest1 x) (extf .f32 (split1 x) bitsLt_bf16_f32)) bitsLt_bf16_f32

/-- One half of the lanes of a [64, 128] array. -/
def lanes (hf : Fin 2) {t : FTy} (x : FVec F S64x128 t) : FVec F S64x64 t :=
  match hf with
  | 0 => extractStridedSlice S64x64 ![0, 0] x slices_S64x128_o0_0_S64x64
  | 1 => extractStridedSlice S64x64 ![0, 64] x slices_S64x128_o0_64_S64x64
/-- One half of the lanes of a [128, 128] array. -/
def lanesD (hf : Fin 2) {t : FTy} (x : FVec F S128x128 t) : FVec F S128x64 t :=
  match hf with
  | 0 => extractStridedSlice S128x64 ![0, 0] x slices_S128x128_o0_0_S128x64
  | 1 => extractStridedSlice S128x64 ![0, 64] x slices_S128x128_o0_64_S128x64
/-- The head that lane half `hf` of pair `p` holds. -/
def headOf (p : Fin 4) (hf : Fin 2) : Fin 8 := ⟨4 * hf.val + p.val, by omega⟩
/-- Column `h` of the decay table. -/
def decCol (h : Fin 8) (x : FVec F S128x8 .f32) : FVec F S128x1 .f32 :=
  match h with
  | 0 => extractStridedSlice S128x1 ![0, 0] x slices_S128x8_o0_0_S128x1
  | 1 => extractStridedSlice S128x1 ![0, 1] x slices_S128x8_o0_1_S128x1
  | 2 => extractStridedSlice S128x1 ![0, 2] x slices_S128x8_o0_2_S128x1
  | 3 => extractStridedSlice S128x1 ![0, 3] x slices_S128x8_o0_3_S128x1
  | 4 => extractStridedSlice S128x1 ![0, 4] x slices_S128x8_o0_4_S128x1
  | 5 => extractStridedSlice S128x1 ![0, 5] x slices_S128x8_o0_5_S128x1
  | 6 => extractStridedSlice S128x1 ![0, 6] x slices_S128x8_o0_6_S128x1
  | 7 => extractStridedSlice S128x1 ![0, 7] x slices_S128x8_o0_7_S128x1

/-- The bf16 zero block. -/
def zero64 : FVec F S64x64 .bf16 := broadcast S64x64 (Scalar.ofBits .bf16 0x0000#16)

/-- The two-row left operand of the solve's product: `[hi hi hi mid; lo mid 0 0]`. -/
def lhsZ (a b c : FVec F S64x64 .bf16) : FVec F S128x256 .bf16 :=
  concatenate S128x256 0
    [⟨S64x256, concatenate S64x256 1 [⟨S64x64, a⟩, ⟨S64x64, a⟩, ⟨S64x64, a⟩, ⟨S64x64, b⟩] concatenates_S64x64_S64x64_S64x64_S64x64_S64x256_d1⟩,
     ⟨S64x256, concatenate S64x256 1 [⟨S64x64, c⟩, ⟨S64x64, b⟩, ⟨S64x64, zero64⟩, ⟨S64x64, zero64⟩] concatenates_S64x64_S64x64_S64x64_S64x64_S64x256_d1⟩]
    concatenates_S64x256_S64x256_S128x256_d0

/-- The three-row left operand of the last product: the decayed keys over the split query-key block. -/
def lhsE (k : FVec F S128x64 .bf16) (a b c : FVec F S64x64 .bf16) : FVec F S256x256 .bf16 :=
  concatenate S256x256 0
    [⟨S128x256, concatenate S128x256 1 [⟨S128x64, k⟩, ⟨S128x64, k⟩, ⟨S128x64, k⟩, ⟨S128x64, broadcast S128x64 (Scalar.ofBits .bf16 0x0000#16)⟩] concatenates_S128x64_S128x64_S128x64_S128x64_S128x256_d1⟩,
     ⟨S64x256, concatenate S64x256 1 [⟨S64x64, a⟩, ⟨S64x64, a⟩, ⟨S64x64, a⟩, ⟨S64x64, b⟩] concatenates_S64x64_S64x64_S64x64_S64x64_S64x256_d1⟩,
     ⟨S64x256, concatenate S64x256 1 [⟨S64x64, c⟩, ⟨S64x64, b⟩, ⟨S64x64, zero64⟩, ⟨S64x64, zero64⟩] concatenates_S64x64_S64x64_S64x64_S64x64_S64x256_d1⟩]
    concatenates_S128x256_S64x256_S64x256_S256x256_d0

/-- The four-row right operand: `[hi; mid; lo; hi]`. -/
def rhs4 (x : FVec F S64x256 .f32) : FVec F S256x256 .bf16 :=
  concatenate S256x256 0 [⟨S64x256, split0 x⟩, ⟨S64x256, split1 x⟩, ⟨S64x256, split2 x⟩, ⟨S64x256, split0 x⟩]
    concatenates_S64x256_S64x256_S64x256_S64x256_S256x256_d0

/-- The keys and queries against the state, in one product. -/
def xdotS (x : FVec F S128x128 .bf16) (s : FVec F S128x256 .f32) : FVec F S128x256 .f32 :=
  matmul dot_S128x384_S384x256_S128x256_1_0_0_1_n_n none
    (concatenate S128x384 1 [⟨S128x128, x⟩, ⟨S128x128, x⟩, ⟨S128x128, x⟩] concatenates_S128x128_S128x128_S128x128_S128x384_d1)
    (concatenate S384x256 0 [⟨S128x256, split0 s⟩, ⟨S128x256, split1 s⟩, ⟨S128x256, split2 s⟩] concatenates_S128x256_S128x256_S128x256_S384x256_d0)
    (constant S128x256 .f32 0x00000000#32)

/-- The values less the scaled keys against the state. -/
def resid (v : FVec F S64x256 .f32) (ks : F .f32) (xs : FVec F S128x256 .f32) : FVec F S64x256 .f32 :=
  subf v (mulf (broadcast S64x256 ks) (extractStridedSlice S64x256 ![0, 0] xs slices_S128x256_o0_0_S64x256))

/-- The solve's factor against the residual: both rows of the product, added. -/
def wOf (a b c : FVec F S64x64 .bf16) (r : FVec F S64x256 .f32) : FVec F S64x256 .f32 :=
  addf (extractStridedSlice S64x256 ![0, 0]
      (matmul dot_S128x256_S256x256_S128x256_1_0_0_1_n_n none (lhsZ a b c) (rhs4 r) (constant S128x256 .f32 0x00000000#32)) slices_S128x256_o0_0_S64x256)
    (extractStridedSlice S64x256 ![64, 0]
      (matmul dot_S128x256_S256x256_S128x256_1_0_0_1_n_n none (lhsZ a b c) (rhs4 r) (constant S128x256 .f32 0x00000000#32)) slices_S128x256_o64_0_S64x256)

/-- The last product. -/
def eOf (k : FVec F S128x64 .bf16) (a b c : FVec F S64x64 .bf16) (w : FVec F S64x256 .f32) : FVec F S256x256 .f32 :=
  matmul dot_S256x256_S256x256_S256x256_1_0_0_1_n_n none (lhsE k a b c) (rhs4 w) (constant S256x256 .f32 0x00000000#32)

/-- The last product of one head, from the arrays the trip reads. -/
def headE (hf : Fin 2) (z q : FVec F S64x128 .f32) (kd x : FVec F S128x128 .bf16) (ks : F .f32)
    (v : FVec F S64x256 .f32) (s : FVec F S128x256 .f32) : FVec F S256x256 .f32 :=
  eOf (lanesD hf kd) (lanes hf (split0 q)) (lanes hf (split1 q)) (lanes hf (split2 q))
    (wOf (lanes hf (split0 z)) (lanes hf (split1 z)) (lanes hf (split2 z)) (resid v ks (xdotS x s)))

/-- One head's new state. -/
def headS (p : Fin 4) (hf : Fin 2) (z q : FVec F S64x128 .f32) (kd x : FVec F S128x128 .bf16) (d : FVec F S128x8 .f32) (ks : F .f32)
    (v : FVec F S64x256 .f32) (s : FVec F S128x256 .f32) : FVec F S128x256 .f32 :=
  addf (mulf (broadcastTo S128x256 (decCol (headOf p hf) d) broadcasts_S128x1_S128x256) s)
    (extractStridedSlice S128x256 ![0, 0] (headE hf z q kd x ks v s) slices_S256x256_o0_0_S128x256)

/-- One head's output block. -/
def headO (hf : Fin 2) (z q : FVec F S64x128 .f32) (kd x : FVec F S128x128 .bf16) (ks qs : F .f32)
    (v : FVec F S64x256 .f32) (s : FVec F S128x256 .f32) : FVec F S64x256 .bf16 :=
  truncf .bf16 (mulf (broadcast S64x256 (Scalar.mulf qs (Scalar.ofBits .f32 0x3DB504F3#32)))
    (addf (extractStridedSlice S64x256 ![64, 0] (xdotS x s) slices_S128x256_o64_0_S64x256)
      (addf (extractStridedSlice S64x256 ![128, 0] (headE hf z q kd x ks v s) slices_S256x256_o128_0_S64x256)
        (extractStridedSlice S64x256 ![192, 0] (headE hf z q kd x ks v s) slices_S256x256_o192_0_S64x256)))) bitsLt_bf16_f32

/-- The two lane halves of a staged block of values, side by side. -/
def join2 (a b : FVec F S64x128 .f32) : FVec F S64x256 .f32 :=
  concatenate S64x256 1 [⟨S64x128, a⟩, ⟨S64x128, b⟩] concatenates_S64x128_S64x128_S64x256_d1

/-- One row of values, all heads, widened. -/
def vrow (v : FVec F S1x1x8x256 .bf16) : FVec F S8x256 .f32 :=
  extf .f32 (shapeCast S8x256 v shapeCasts_S1x1x8x256_S8x256) bitsLt_bf16_f32

end Cert.Kernel.Hand

end
-- ==== Proof.K.Tidy.lean ====
/-
  The kernel body, restated with its 64 row copies and its eight heads each written once: `tidy` is the printed
  body, by definitional unfolding.
-/
module

public import proofs.«01_k».proof.Proof.K.Step
public import Idealize.ShloMosaic.Lib.Pipeline.Regions

@[expose] public section

noncomputable section

namespace Cert.Kernel.Hand

open Cert.Kernel Cert.Kernel.Gen
open Idealize.ShloMosaic Idealize.SL.Sem

variable {F : FTy → Type} [FloatOps F]

/-- Where head `h` of chunk `t` lies in the keys and queries. -/
def offX (t : Fin k0_t1_loop.trips) (h : Fin 8) : Fin 6 → Nat :=
  match h with
  | 0 => k0_off6 t | 1 => k0_off11 t | 2 => k0_off15 t | 3 => k0_off19 t
  | 4 => k0_off9 t | 5 => k0_off13 t | 6 => k0_off17 t | 7 => k0_off21 t
theorem offX_eq (t : Fin k0_t1_loop.trips) (h : Fin 8) : offX t h = ![0, 0, t.val, h.val, 0, 0] := by
  fin_cases h
  · exact k0_off6_eq t
  · exact k0_off11_eq t
  · exact k0_off15_eq t
  · exact k0_off19_eq t
  · exact k0_off9_eq t
  · exact k0_off13_eq t
  · exact k0_off17_eq t
  · exact k0_off21_eq t
theorem offX_inb (t : Fin k0_t1_loop.trips) (h : Fin 8) : ∀ a, (offX t h) a + S1x1x1x1x128x128.size a ≤ S1x1x14x8x128x128.size a := by
  rw [offX_eq]; revert t h; decide +kernel

/-- Where head `h` of chunk `t` lies in the output block. -/
def offO (t : Fin k0_t1_loop.trips) (h : Fin 8) : Fin 3 → Nat :=
  match h with
  | 0 => k0_off8 t | 1 => k0_off12 t | 2 => k0_off16 t | 3 => k0_off20 t
  | 4 => k0_off10 t | 5 => k0_off14 t | 6 => k0_off18 t | 7 => k0_off22 t
theorem offO_eq (t : Fin k0_t1_loop.trips) (h : Fin 8) : offO t h = ![0, 64 * t.val, 256 * h.val] := by
  fin_cases h
  · exact k0_off8_eq t
  · exact k0_off12_eq t
  · exact k0_off16_eq t
  · exact k0_off20_eq t
  · exact k0_off10_eq t
  · exact k0_off14_eq t
  · exact k0_off18_eq t
  · exact k0_off22_eq t
theorem offO_inb (t : Fin k0_t1_loop.trips) (h : Fin 8) : ∀ a, (offO t h) a + S1x64x256.size a ≤ S1x896x2048.size a := by
  rw [offO_eq]; revert t h; decide +kernel
theorem offO_packed (t : Fin k0_t1_loop.trips) (h : Fin 8) :
    (Rect.unit (s := S1x896x2048) (offO t h) S1x64x256.size (offO_inb t h)).PackedRows (EltTy.packing .bf16) := by
  fin_cases h
  · exact k0_off8_packedbf16 t
  · exact k0_off12_packedbf16 t
  · exact k0_off16_packedbf16 t
  · exact k0_off20_packedbf16 t
  · exact k0_off10_packedbf16 t
  · exact k0_off14_packedbf16 t
  · exact k0_off18_packedbf16 t
  · exact k0_off22_packedbf16 t

theorem inbStage : ∀ (l : Fin 2) (r : Fin 64), ∀ a, (![l.val, 9 * r.val, 0] : Fin 3 → Nat) a + S1x8x128.size a ≤ S2x576x128.size a := by decide +kernel
theorem inbGather : ∀ (l : Fin 2) (h : Fin 8), ∀ a, S1x64x128.size a = 0 ∨ (![l.val, h.val, 0] : Fin 3 → Nat) a + (![1, 9, 1] : Fin 3 → Nat) a * (S1x64x128.size a - 1) < S2x576x128.size a := by decide +kernel
theorem inbState : ∀ h : Fin 8, ∀ a, (![0, h.val, 0, 0] : Fin 4 → Nat) a + S1x1x128x256.size a ≤ S1x8x128x256.size a := by decide +kernel

variable (i : grid0.Coords) (arg2 : Memref sig .tc .smem S14x2x16 .f32) (arg3 : Memref sig .tc .smem S14x2x16 .f32) (arg4 : Memref sig .tc .vmem S1x896x8x256 .bf16) (arg5 : Memref sig .tc .vmem S1x1x4352x128 .f32) (arg6 : Memref sig .tc .vmem S1x1x56x64x128 .f32) (arg7 : Memref sig .tc .vmem S1x1x14x8x128x128 .bf16) (arg8 : Memref sig .tc .vmem S1x1x56x128x128 .bf16) (arg9 : Memref sig .tc .vmem S1x1x14x128x8 .f32) (arg10 : Memref sig .tc .vmem S1x8x128x256 .f32) (arg11 : Memref sig .tc .vmem S1x896x2048 .bf16) (harg11 : arg11.IsWhole) (arg12 : Memref sig .tc .vmem S1x8x128x256 .f32) (arg13 : Memref sig .tc .vmem S2x576x128 .f32)

/-- Copy row `r` of chunk `t`'s values, all heads, into the two halves of the scratch. -/
def stageRow (t : Fin k0_t1_loop.trips) (r : Fin 64) : Prog (TpuEff nD τ sig (Elt F) Λ₀ .tc) PUnit := do
  let v : Vec F S1x1x8x256 .bf16 ← Prog.lift (.load arg4 (Rect.unit (s := S1x896x8x256) (k0_off1 t (BitVec.ofNat 32 r.val)) S1x1x8x256.size (k0_off1_inb t r)).toLoadRect (View.loadsAt_vmem h_S1x1x8x256))
  let _ : Vec F S1x8x128 .f32 ← Prog.lift (.load arg13 (Rect.unit (s := S2x576x128) ![(0 : Fin 2).val, 9 * r.val, 0] S1x8x128.size (inbStage 0 r)).toLoadRect (View.loadsAt_vmem h_S1x8x128))
  Prog.lift (.store arg13 (Rect.unit (s := S2x576x128) ![(0 : Fin 2).val, 9 * r.val, 0] S1x8x128.size (inbStage 0 r))
    (shapeCast S1x8x128 (extractStridedSlice S8x128 ![0, 0] (vrow v) slices_S8x256_o0_0_S8x128) shapeCasts_S8x128_S1x8x128) Finset.univ (View.stores_vmem_bits_univ h_S1x8x128 rfl) (.inl rfl))
  let _ : Vec F S1x8x128 .f32 ← Prog.lift (.load arg13 (Rect.unit (s := S2x576x128) ![(1 : Fin 2).val, 9 * r.val, 0] S1x8x128.size (inbStage 1 r)).toLoadRect (View.loadsAt_vmem h_S1x8x128))
  Prog.lift (.store arg13 (Rect.unit (s := S2x576x128) ![(1 : Fin 2).val, 9 * r.val, 0] S1x8x128.size (inbStage 1 r))
    (shapeCast S1x8x128 (extractStridedSlice S8x128 ![0, 128] (vrow v) slices_S8x256_o0_128_S8x128) shapeCasts_S8x128_S1x8x128) Finset.univ (View.stores_vmem_bits_univ h_S1x8x128 rfl) (.inl rfl))

/-- Copy the listed rows, in order. -/
def stageRows (t : Fin k0_t1_loop.trips) : List (Fin 64) → Prog (TpuEff nD τ sig (Elt F) Λ₀ .tc) PUnit
  | [] => pure ⟨⟩
  | r :: rs => do stageRow arg4 arg13 t r; stageRows t rs

/-- One head of one trip: read its state, its keys and queries and its staged values; leave its new state and its
    output rows. -/
def headProg (t : Fin k0_t1_loop.trips) (p : Fin 4) (hf : Fin 2) (z q : FVec F S64x128 .f32) (kd : FVec F S128x128 .bf16) (d : FVec F S128x8 .f32) :
    Prog (TpuEff nD τ sig (Elt F) Λ₀ .tc) PUnit := do
  let s : Vec F S1x1x128x256 .f32 ← Prog.lift (.load arg12 (Rect.unit (s := S1x8x128x256) ![0, (headOf p hf).val, 0, 0] S1x1x128x256.size (inbState (headOf p hf))).toLoadRect (View.loadsAt_vmem h_S1x1x128x256))
  let x : Vec F S1x1x1x1x128x128 .bf16 ← Prog.lift (.load arg7 (Rect.unit (s := S1x1x14x8x128x128) (offX t (headOf p hf)) S1x1x1x1x128x128.size (offX_inb t (headOf p hf))).toLoadRect (View.loadsAt_vmem h_S1x1x1x1x128x128))
  let va : Vec F S1x64x128 .f32 ← Prog.lift (.load arg13 (⟨![(0 : Fin 2).val, (headOf p hf).val, 0], S1x64x128.size, ![1, 9, 1], inbGather 0 (headOf p hf)⟩ : LoadRect S2x576x128) (View.loadsAt_vmem h_S1x64x128))
  let vb : Vec F S1x64x128 .f32 ← Prog.lift (.load arg13 (⟨![(1 : Fin 2).val, (headOf p hf).val, 0], S1x64x128.size, ![1, 9, 1], inbGather 1 (headOf p hf)⟩ : LoadRect S2x576x128) (View.loadsAt_vmem h_S1x64x128))
  let ks : Elt F .f32 ← smemLoad arg3 (Rect.unit (s := S14x2x16) (k0_off7 i t (BitVec.ofNat 32 (headOf p hf).val)) S1x1x1.size (k0_off7_inb i t (headOf p hf))) numel1_S1x1x1 rfl
  let _ : Vec F S1x1x128x256 .f32 ← Prog.lift (.load arg12 (Rect.unit (s := S1x8x128x256) ![0, (headOf p hf).val, 0, 0] S1x1x128x256.size (inbState (headOf p hf))).toLoadRect (View.loadsAt_vmem h_S1x1x128x256))
  Prog.lift (.store arg12 (Rect.unit (s := S1x8x128x256) ![0, (headOf p hf).val, 0, 0] S1x1x128x256.size (inbState (headOf p hf)))
    (shapeCast S1x1x128x256 (headS p hf z q kd (shapeCast S128x128 x shapeCasts_S1x1x1x1x128x128_S128x128) d ks
      (join2 (shapeCast S64x128 va shapeCasts_S1x64x128_S64x128) (shapeCast S64x128 vb shapeCasts_S1x64x128_S64x128))
      (shapeCast S128x256 s shapeCasts_S1x1x128x256_S128x256)) shapeCasts_S128x256_S1x1x128x256)
    Finset.univ (View.stores_vmem_bits_univ h_S1x1x128x256 rfl) (.inl rfl))
  let qs : Elt F .f32 ← smemLoad arg2 (Rect.unit (s := S14x2x16) (k0_off7 i t (BitVec.ofNat 32 (headOf p hf).val)) S1x1x1.size (k0_off7_inb i t (headOf p hf))) numel1_S1x1x1 rfl
  let _ : Vec F S1x64x256 .bf16 ← Prog.lift (.load arg11 (Rect.unit (s := S1x896x2048) (offO t (headOf p hf)) S1x64x256.size (offO_inb t (headOf p hf))).toLoadRect (View.loadsAt_vmem h_S1x64x256))
  Prog.lift (.store arg11 (Rect.unit (s := S1x896x2048) (offO t (headOf p hf)) S1x64x256.size (offO_inb t (headOf p hf)))
    (shapeCast S1x64x256 (headO hf z q kd (shapeCast S128x128 x shapeCasts_S1x1x1x1x128x128_S128x128) ks qs
      (join2 (shapeCast S64x128 va shapeCasts_S1x64x128_S64x128) (shapeCast S64x128 vb shapeCasts_S1x64x128_S64x128))
      (shapeCast S128x256 s shapeCasts_S1x1x128x256_S128x256)) shapeCasts_S64x256_S1x64x256)
    Finset.univ (View.stores_vmem h_S1x64x256 (harg11.storeExact_slice rfl _ (offO_packed t (headOf p hf))) (fun _ => rfl)) (.inl rfl))

/-- The two heads of a pair: the pair's three factor blocks are read once. -/
def pairProg (t : Fin k0_t1_loop.trips) (d : FVec F S128x8 .f32) (p : Fin 4) : Prog (TpuEff nD τ sig (Elt F) Λ₀ .tc) PUnit := do
  let z : Vec F S1x1x64x128 .f32 ← Prog.lift (.load arg5 (⟨k0_off3 t (BitVec.ofNat 32 p.val), S1x1x64x128.size, ![1, 1, 68, 1], (k0_off3_inb t p)⟩ : LoadRect S1x1x4352x128) (View.loadsAt_vmem h_S1x1x64x128))
  let q : Vec F S1x1x1x64x128 .f32 ← Prog.lift (.load arg6 (Rect.unit (s := S1x1x56x64x128) (k0_off4 t (BitVec.ofNat 32 p.val)) S1x1x1x64x128.size (k0_off4_inb t p)).toLoadRect (View.loadsAt_vmem h_S1x1x1x64x128))
  let kd : Vec F S1x1x1x128x128 .bf16 ← Prog.lift (.load arg8 (Rect.unit (s := S1x1x56x128x128) (k0_off5 t (BitVec.ofNat 32 p.val)) S1x1x1x128x128.size (k0_off5_inb t p)).toLoadRect (View.loadsAt_vmem h_S1x1x1x128x128))
  headProg i arg2 arg3 arg7 arg11 harg11 arg12 arg13 t p 0 (shapeCast S64x128 z shapeCasts_S1x1x64x128_S64x128) (shapeCast S64x128 q shapeCasts_S1x1x1x64x128_S64x128) (shapeCast S128x128 kd shapeCasts_S1x1x1x128x128_S128x128) d
  headProg i arg2 arg3 arg7 arg11 harg11 arg12 arg13 t p 1 (shapeCast S64x128 z shapeCasts_S1x1x64x128_S64x128) (shapeCast S64x128 q shapeCasts_S1x1x1x64x128_S64x128) (shapeCast S128x128 kd shapeCasts_S1x1x1x128x128_S128x128) d

/-- One trip: stage the chunk's values, read the decay, then the four pairs. -/
def tripProg (t : Fin k0_t1_loop.trips) : Prog (TpuEff nD τ sig (Elt F) Λ₀ .tc) PUnit := do
  stageRows arg4 arg13 t (List.finRange 64)
  let d : Vec F S1x1x1x128x8 .f32 ← Prog.lift (.load arg9 (Rect.unit (s := S1x1x14x128x8) (k0_off2 t) S1x1x1x128x8.size (k0_off2_inb t)).toLoadRect (View.loadsAt_vmem h_S1x1x1x128x8))
  pairProg i arg2 arg3 arg5 arg6 arg7 arg8 arg11 harg11 arg12 arg13 t (shapeCast S128x8 d shapeCasts_S1x1x1x128x8_S128x8) 0
  pairProg i arg2 arg3 arg5 arg6 arg7 arg8 arg11 harg11 arg12 arg13 t (shapeCast S128x8 d shapeCasts_S1x1x1x128x8_S128x8) 1
  pairProg i arg2 arg3 arg5 arg6 arg7 arg8 arg11 harg11 arg12 arg13 t (shapeCast S128x8 d shapeCasts_S1x1x1x128x8_S128x8) 2
  pairProg i arg2 arg3 arg5 arg6 arg7 arg8 arg11 harg11 arg12 arg13 t (shapeCast S128x8 d shapeCasts_S1x1x1x128x8_S128x8) 3

/-- The body: the state starts at the initial state; then the trips. -/
def bodyProg : Prog (TpuEff nD τ sig (Elt F) Λ₀ .tc) PUnit := do
  let h : Vec F S1x8x128x256 .f32 ← Prog.lift (.load arg10 (Rect.unit (s := S1x8x128x256) ![0, 0, 0, 0] S1x8x128x256.size inb_S1x8x128x256_S1x8x128x256_0_0_0_0).toLoadRect (View.loadsAt_vmem h_S1x8x128x256))
  let _ : Vec F S1x8x128x256 .f32 ← Prog.lift (.load arg12 (Rect.unit (s := S1x8x128x256) ![0, 0, 0, 0] S1x8x128x256.size inb_S1x8x128x256_S1x8x128x256_0_0_0_0).toLoadRect (View.loadsAt_vmem h_S1x8x128x256))
  Prog.lift (.store arg12 (Rect.unit (s := S1x8x128x256) ![0, 0, 0, 0] S1x8x128x256.size inb_S1x8x128x256_S1x8x128x256_0_0_0_0) h Finset.univ (View.stores_vmem_bits_univ h_S1x8x128x256 rfl) (.inl rfl))
  Scf.Loop.for k0_t1_loop k0_t1_ok ⟨⟩ fun t _ => tripProg i arg2 arg3 arg4 arg5 arg6 arg7 arg8 arg9 arg11 harg11 arg12 arg13 t
  pure ⟨⟩

set_option maxRecDepth 65536 in
/-- The printed body is the tidy one. -/
theorem body_eq (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg12 : arg12.IsWhole) (harg13 : arg13.IsWhole) :
    cc0_kda (F := F) i arg2 harg2 arg3 harg3 arg4 harg4 arg5 harg5 arg6 harg6 arg7 harg7 arg8 harg8 arg9 harg9 arg10 harg10 arg11 harg11 arg12 harg12 arg13 harg13
      = bodyProg i arg2 arg3 arg4 arg5 arg6 arg7 arg8 arg9 arg10 arg11 harg11 arg12 arg13 := by
  chain_rfl

end Cert.Kernel.Hand

end
-- ==== Proof.K.Rules.lean ====
/-
  One rule for each effect of the body, with the buffers held at read contents (`owns`): a load continues at what it
  reads, a store leaves the contents overlaid with what it wrote.
-/
module

public import proofs.«01_k».proof.Proof.K.Tidy
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body run on core `c`, to the continuation `K`. -/
abbrev runs (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

variable (c : Dev nD) {sh : Shape} {e : EltTy} {α β : Type}

theorem runs_bind (p : Prog (TpuEff nD τ sig (Elt F) Λ₀ .tc) β) (k : β → Prog (TpuEff nD τ sig (Elt F) Λ₀ .tc) α) (K : α → sProp 𝕄) :
    runs c (p >>= k) K = runs c p (fun x => runs c (k x) K) := wp_bind _ _ _ _ _ _

/-- A load at the head of a program continues at the values it reads. -/
theorem ld {cs : CoreSpace} {m : Memref sig .tc cs sh e} {r : LoadRect sh} {hl : m.view.LoadsAt r} {q : PosShare TreeShare}
    {X : sh.Idx → Elt F e} {k : (r.shape.Idx → Elt F e) → Prog (TpuEff nD τ sig (Elt F) Λ₀ .tc) α} {K : α → sProp 𝕄} :
    iprop(owns (c : Thread nD τ) m q X ∗ (owns (c : Thread nD τ) m q X -∗ runs c (k (fun j => X (r.idx j))) K))
      ⊢ runs c (Prog.lift (.load m r hl) >>= k) K := by
  rw [Prog.bind_lift]
  unfold owns
  iintro ⟨⟨%f, %hf, H⟩, Hk⟩
  subst hf
  iapply (wp_load (m := m) (hl := hl) Variants.none (c : Thread nD τ) none Set.univ (View.setOn_subset_set _ _)) $$ H
  iintro H
  iapply Hk
  iexists f
  isplitr; · ipureintro; rfl
  iexact H

/-- A word read from scalar memory. -/
theorem lds {m : Memref sig .tc .smem sh e} {r : Rect sh} {h1 : r.shape.numel = 1} {hp : e.packing = 1} {q : PosShare TreeShare}
    {X : sh.Idx → Elt F e} {k : Elt F e → Prog (TpuEff nD τ sig (Elt F) Λ₀ .tc) α} {K : α → sProp 𝕄} :
    iprop(owns (c : Thread nD τ) m q X ∗ (owns (c : Thread nD τ) m q X -∗ runs c (k (X (r.idx (Shape.Idx.first (h1.symm ▸ Nat.one_pos))))) K))
      ⊢ runs c (smemLoad m r h1 hp >>= k) K :=
  ld (cs := .smem) (k := fun f => k (f (Shape.Idx.first (h1.symm ▸ Nat.one_pos)))) (hl := View.loadsAt_rect (View.loads_smem_one hp h1)) c

/-- A store at the head of a program leaves the contents overlaid with what it wrote. -/
theorem st {cs : CoreSpace} {m : Memref sig .tc cs sh e} {r : Rect sh} {w : r.shape.Idx → Elt F e}
    {hx : (m.access r).Stores Finset.univ} {hm : Finset.univ = Finset.univ ∨ ∀ a, r.stride a = 1}
    {X : sh.Idx → Elt F e} {k : PUnit → Prog (TpuEff nD τ sig (Elt F) Λ₀ .tc) α} {K : α → sProp 𝕄} :
    iprop(owns (c : Thread nD τ) m fullShare X ∗ (owns (c : Thread nD τ) m fullShare (r.overlay X w) -∗ runs c (k ⟨⟩) K))
      ⊢ runs c (Prog.lift (.store m r w Finset.univ hx hm) >>= k) K := by
  rw [Prog.bind_lift]
  unfold owns
  iintro ⟨⟨%f, %hf, H⟩, Hk⟩
  subst hf
  iapply (wp_store (m := m) (hx := hx) (hm := hm) (w := w) (Mk := Finset.univ) Variants.none (c : Thread nD τ) none Set.univ (Memref.setOn_access_subset _ _ _)) $$ H
  iintro H
  iapply Hk
  iexists _
  isplitr; swap; · iexact H
  ipureintro
  funext j
  by_cases hj : j ∈ r.set
  · rw [← Rect.map_emb_univ] at hj
    obtain ⟨x, -, rfl⟩ := Finset.mem_map.mp hj
    rw [Rect.overlay_emb]
    exact View.read_slice_write_emb r f w (Finset.mem_univ x)
  · rw [Rect.overlay_of_not_mem r _ _ hj]
    exact View.read_slice_write_of_not_mem r f w _ (by rw [Rect.map_emb_univ]; exact hj)

/-- The same where the store ends the program. -/
theorem stLast {cs : CoreSpace} {m : Memref sig .tc cs sh e} {r : Rect sh} {w : r.shape.Idx → Elt F e}
    {hx : (m.access r).Stores Finset.univ} {hm : Finset.univ = Finset.univ ∨ ∀ a, r.stride a = 1}
    {X : sh.Idx → Elt F e} {K : PUnit → sProp 𝕄} :
    iprop(owns (c : Thread nD τ) m fullShare X ∗ (owns (c : Thread nD τ) m fullShare (r.overlay X w) -∗ K ⟨⟩))
      ⊢ runs c (Prog.lift (.store m r w Finset.univ hx hm)) K := by
  have h := st (F := F) c (hx := hx) (hm := hm) (w := w) (X := X) (k := fun u => Prog.ret u) (K := K)
  refine BIBase.Entails.trans ?_ h
  iintro ⟨H, Hk⟩
  isplitl [H]; · iexact H
  iintro H
  iapply (le_wp_ret _ _ _ _ _)
  iapply Hk
  iexact H

end Cert.Kernel.Hand

end
-- ==== Proof.K.Fn.lean ====
/-
  What the body does to the contents of its buffers, as functions: a row staged, a head, a trip, all the trips.
-/
module

public import proofs.«01_k».proof.Proof.K.Tidy
public import Idealize.ShloMosaic.Lib.Memref

@[expose] public section

noncomputable section

namespace Cert.Kernel.Hand

open Cert.Kernel Cert.Kernel.Gen
open Idealize.ShloMosaic

variable {F : FTy → Type} [FloatOps F]

/-! ## The rectangles -/

/-- Row `r` of chunk `t` in the values. -/
abbrev rV (t : Fin k0_t1_loop.trips) (r : Fin 64) : Rect S1x896x8x256 :=
  Rect.unit (s := S1x896x8x256) (k0_off1 t (BitVec.ofNat 32 r.val)) S1x1x8x256.size (k0_off1_inb t r)
/-- Row `r`'s place in half `l` of the scratch. -/
abbrev rStage (l : Fin 2) (r : Fin 64) : Rect S2x576x128 :=
  Rect.unit (s := S2x576x128) ![l.val, 9 * r.val, 0] S1x8x128.size (inbStage l r)
/-- Head `h`'s rows in half `l` of the scratch. -/
abbrev rGather (l : Fin 2) (h : Fin 8) : LoadRect S2x576x128 :=
  ⟨![l.val, h.val, 0], S1x64x128.size, ![1, 9, 1], inbGather l h⟩
/-- Head `h` of the state block. -/
abbrev rS (h : Fin 8) : Rect S1x8x128x256 := Rect.unit (s := S1x8x128x256) ![0, h.val, 0, 0] S1x1x128x256.size (inbState h)
/-- Head `h`, chunk `t` of the output block. -/
abbrev rO (t : Fin k0_t1_loop.trips) (h : Fin 8) : Rect S1x896x2048 := Rect.unit (s := S1x896x2048) (offO t h) S1x64x256.size (offO_inb t h)
/-- Head `h`, chunk `t` of the keys and queries. -/
abbrev rX (t : Fin k0_t1_loop.trips) (h : Fin 8) : Rect S1x1x14x8x128x128 :=
  Rect.unit (s := S1x1x14x8x128x128) (offX t h) S1x1x1x1x128x128.size (offX_inb t h)
/-- Chunk `t` of the decays. -/
abbrev rD (t : Fin k0_t1_loop.trips) : Rect S1x1x14x128x8 := Rect.unit (s := S1x1x14x128x8) (k0_off2 t) S1x1x1x128x8.size (k0_off2_inb t)
/-- Chunk `t`, pair `p` of the solve's factor: rows 68 apart. -/
abbrev rZ (t : Fin k0_t1_loop.trips) (p : Fin 4) : LoadRect S1x1x4352x128 :=
  ⟨k0_off3 t (BitVec.ofNat 32 p.val), S1x1x64x128.size, ![1, 1, 68, 1], (k0_off3_inb t p)⟩
/-- Chunk `t`, pair `p` of the query-key blocks. -/
abbrev rQ (t : Fin k0_t1_loop.trips) (p : Fin 4) : Rect S1x1x56x64x128 :=
  Rect.unit (s := S1x1x56x64x128) (k0_off4 t (BitVec.ofNat 32 p.val)) S1x1x1x64x128.size (k0_off4_inb t p)
/-- Chunk `t`, pair `p` of the decayed keys. -/
abbrev rK (t : Fin k0_t1_loop.trips) (p : Fin 4) : Rect S1x1x56x128x128 :=
  Rect.unit (s := S1x1x56x128x128) (k0_off5 t (BitVec.ofNat 32 p.val)) S1x1x1x128x128.size (k0_off5_inb t p)
/-- Chunk `t`, head `h` of a scale table, at grid point `i`. -/
abbrev rT (i : grid0.Coords) (t : Fin k0_t1_loop.trips) (h : Fin 8) : Rect S14x2x16 :=
  Rect.unit (s := S14x2x16) (k0_off7 i t (BitVec.ofNat 32 h.val)) S1x1x1.size (k0_off7_inb i t h)

/-- The contents of the body's nine input buffers. -/
structure Ins (F : FTy → Type) where
  /-- The queries' scales. -/
  qs : Vec F S14x2x16 .f32
  /-- The keys' scales. -/
  ks : Vec F S14x2x16 .f32
  /-- The values. -/
  v : Vec F S1x896x8x256 .bf16
  /-- The solve's factors. -/
  z : Vec F S1x1x4352x128 .f32
  /-- The query-key blocks. -/
  qk : Vec F S1x1x56x64x128 .f32
  /-- The keys and queries. -/
  xc : Vec F S1x1x14x8x128x128 .bf16
  /-- The decayed keys. -/
  kd : Vec F S1x1x56x128x128 .bf16
  /-- The decays. -/
  dec : Vec F S1x1x14x128x8 .f32
  /-- The initial state. -/
  h0 : Vec F S1x8x128x256 .f32

/-! ## What is read -/

variable (i : grid0.Coords) (X : Ins F)

/-- Row `r` of chunk `t`. -/
def vR (t : Fin k0_t1_loop.trips) (r : Fin 64) (V : Vec F S1x896x8x256 .bf16) : FVec F S8x256 .f32 := vrow (fun j => V ((rV t r).toLoadRect.idx j))
/-- The scratch after row `r` of chunk `t` is staged. -/
def stageX (t : Fin k0_t1_loop.trips) (V : Vec F S1x896x8x256 .bf16) (Y : Vec F S2x576x128 .f32) (r : Fin 64) : Vec F S2x576x128 .f32 :=
  (rStage 1 r).overlay ((rStage 0 r).overlay Y
      (shapeCast S1x8x128 (extractStridedSlice S8x128 ![0, 0] (vR t r V) slices_S8x256_o0_0_S8x128) shapeCasts_S8x128_S1x8x128))
    (shapeCast S1x8x128 (extractStridedSlice S8x128 ![0, 128] (vR t r V) slices_S8x256_o0_128_S8x128) shapeCasts_S8x128_S1x8x128)
/-- The scratch after the listed rows are staged. -/
def stageXs (t : Fin k0_t1_loop.trips) (V : Vec F S1x896x8x256 .bf16) (l : List (Fin 64)) (Y : Vec F S2x576x128 .f32) : Vec F S2x576x128 .f32 :=
  l.foldl (stageX t V) Y
/-- Head `h`'s values as the scratch holds them. -/
def gather (h : Fin 8) (Y : Vec F S2x576x128 .f32) : FVec F S64x256 .f32 :=
  join2 (shapeCast S64x128 (fun j => Y ((rGather 0 h).idx j) : FVec F S1x64x128 .f32) shapeCasts_S1x64x128_S64x128)
    (shapeCast S64x128 (fun j => Y ((rGather 1 h).idx j) : FVec F S1x64x128 .f32) shapeCasts_S1x64x128_S64x128)
/-- The solve's factor of a pair. -/
def zIn (t : Fin k0_t1_loop.trips) (p : Fin 4) : FVec F S64x128 .f32 :=
  shapeCast S64x128 (fun j => X.z ((rZ t p).idx j) : FVec F S1x1x64x128 .f32) shapeCasts_S1x1x64x128_S64x128
/-- The query-key blocks of a pair. -/
def qIn (t : Fin k0_t1_loop.trips) (p : Fin 4) : FVec F S64x128 .f32 :=
  shapeCast S64x128 (fun j => X.qk ((rQ t p).toLoadRect.idx j) : FVec F S1x1x1x64x128 .f32) shapeCasts_S1x1x1x64x128_S64x128
/-- The decayed keys of a pair. -/
def kIn (t : Fin k0_t1_loop.trips) (p : Fin 4) : FVec F S128x128 .bf16 :=
  shapeCast S128x128 (fun j => X.kd ((rK t p).toLoadRect.idx j) : FVec F S1x1x1x128x128 .bf16) shapeCasts_S1x1x1x128x128_S128x128
/-- The decays of a chunk. -/
def dIn (t : Fin k0_t1_loop.trips) : FVec F S128x8 .f32 :=
  shapeCast S128x8 (fun j => X.dec ((rD t).toLoadRect.idx j) : FVec F S1x1x1x128x8 .f32) shapeCasts_S1x1x1x128x8_S128x8
/-- The keys and queries of a head. -/
def xIn (t : Fin k0_t1_loop.trips) (h : Fin 8) : FVec F S128x128 .bf16 :=
  shapeCast S128x128 (fun j => X.xc ((rX t h).toLoadRect.idx j) : FVec F S1x1x1x1x128x128 .bf16) shapeCasts_S1x1x1x1x128x128_S128x128
/-- A head's scale. -/
def sIn (T : Vec F S14x2x16 .f32) (t : Fin k0_t1_loop.trips) (h : Fin 8) : F .f32 := T ((rT i t h).idx (Shape.Idx.first (numel1_S1x1x1.symm ▸ Nat.one_pos)))
/-- Head `h` of a state block. -/
def slS (h : Fin 8) (Y : Vec F S1x8x128x256 .f32) : FVec F S128x256 .f32 :=
  shapeCast S128x256 (fun j => Y ((rS h).toLoadRect.idx j) : FVec F S1x1x128x256 .f32) shapeCasts_S1x1x128x256_S128x256

/-! ## What is written -/

/-- The contents of the output block and of the state block. -/
abbrev Outs (F : FTy → Type) := Vec F S1x896x2048 .bf16 × Vec F S1x8x128x256 .f32

/-- One head's new state, from its old one and its values. -/
def newS (t : Fin k0_t1_loop.trips) (p : Fin 4) (hf : Fin 2) (v : FVec F S64x256 .f32) (s : FVec F S128x256 .f32) : FVec F S128x256 .f32 :=
  headS p hf (zIn X t p) (qIn X t p) (kIn X t p) (xIn X t (headOf p hf)) (dIn X t) (sIn i X.ks t (headOf p hf)) v s
/-- One head's output rows. -/
def newO (t : Fin k0_t1_loop.trips) (p : Fin 4) (hf : Fin 2) (v : FVec F S64x256 .f32) (s : FVec F S128x256 .f32) : FVec F S64x256 .bf16 :=
  headO hf (zIn X t p) (qIn X t p) (kIn X t p) (xIn X t (headOf p hf)) (sIn i X.ks t (headOf p hf)) (sIn i X.qs t (headOf p hf)) v s

/-- One head. -/
def headFn (t : Fin k0_t1_loop.trips) (Y : Vec F S2x576x128 .f32) (p : Fin 4) (hf : Fin 2) (W : Outs F) : Outs F :=
  ((rO t (headOf p hf)).overlay W.1 (shapeCast S1x64x256 (newO i X t p hf (gather (headOf p hf) Y) (slS (headOf p hf) W.2)) shapeCasts_S64x256_S1x64x256),
   (rS (headOf p hf)).overlay W.2 (shapeCast S1x1x128x256 (newS i X t p hf (gather (headOf p hf) Y) (slS (headOf p hf) W.2)) shapeCasts_S128x256_S1x1x128x256))
/-- The two heads of a pair. -/
def pairFn (t : Fin k0_t1_loop.trips) (Y : Vec F S2x576x128 .f32) (p : Fin 4) (W : Outs F) : Outs F :=
  headFn i X t Y p 1 (headFn i X t Y p 0 W)
/-- The eight heads. -/
def headsFn (t : Fin k0_t1_loop.trips) (Y : Vec F S2x576x128 .f32) (W : Outs F) : Outs F :=
  pairFn i X t Y 3 (pairFn i X t Y 2 (pairFn i X t Y 1 (pairFn i X t Y 0 W)))
/-- One trip: the outputs and the scratch. -/
def tripFn (t : Fin k0_t1_loop.trips) (W : Outs F × Vec F S2x576x128 .f32) : Outs F × Vec F S2x576x128 .f32 :=
  (headsFn i X t (stageXs t X.v (List.finRange 64) W.2) W.1, stageXs t X.v (List.finRange 64) W.2)
/-- The first `n` trips. -/
def tripsFn (W : Outs F × Vec F S2x576x128 .f32) : ℕ → Outs F × Vec F S2x576x128 .f32
  | 0 => W
  | n + 1 => if h : n < k0_t1_loop.trips then tripFn i X ⟨n, h⟩ (tripsFn W n) else tripsFn W n

theorem tripsFn_succ (W : Outs F × Vec F S2x576x128 .f32) (t : Fin k0_t1_loop.trips) :
    tripsFn i X W (t.val + 1) = tripFn i X t (tripsFn i X W t.val) := by
  rw [tripsFn, dif_pos t.isLt]

end Cert.Kernel.Hand

end
-- ==== Proof.K.Triples.lean ====
/-
  The body's triple: from its input buffers at contents `X` and the others at any contents, it leaves the inputs as
  they were and the others at the functions of `Fn.lean`.
-/
module

public import proofs.«01_k».proof.Proof.K.Rules
public import proofs.«01_k».proof.Proof.K.Fn

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (X : Ins F)
variable (arg2 : Memref sig .tc .smem S14x2x16 .f32) (arg3 : Memref sig .tc .smem S14x2x16 .f32) (arg4 : Memref sig .tc .vmem S1x896x8x256 .bf16)
  (arg5 : Memref sig .tc .vmem S1x1x4352x128 .f32) (arg6 : Memref sig .tc .vmem S1x1x56x64x128 .f32) (arg7 : Memref sig .tc .vmem S1x1x14x8x128x128 .bf16)
  (arg8 : Memref sig .tc .vmem S1x1x56x128x128 .bf16) (arg9 : Memref sig .tc .vmem S1x1x14x128x8 .f32) (arg10 : Memref sig .tc .vmem S1x8x128x256 .f32)
  (arg11 : Memref sig .tc .vmem S1x896x2048 .bf16) (harg11 : arg11.IsWhole) (arg12 : Memref sig .tc .vmem S1x8x128x256 .f32) (arg13 : Memref sig .tc .vmem S2x576x128 .f32)

/-- A staged row. -/
theorem stageRow_runs (t : Fin k0_t1_loop.trips) (r : Fin 64) (V : Vec F S1x896x8x256 .bf16) (Y : Vec F S2x576x128 .f32) (K : PUnit → sProp 𝕄) :
    iprop(owns (c : Thread nD τ) arg4 fullShare V ∗ owns (c : Thread nD τ) arg13 fullShare Y
        ∗ (owns (c : Thread nD τ) arg4 fullShare V -∗ owns (c : Thread nD τ) arg13 fullShare (stageX t V Y r) -∗ K ⟨⟩))
      ⊢ runs c (stageRow arg4 arg13 t r) K := by
  unfold stageRow
  iintro ⟨H4, H13, Hk⟩
  iapply (ld c)
  isplitl [H4]; · iexact H4
  iintro H4
  iapply (ld c)
  isplitl [H13]; · iexact H13
  iintro H13
  iapply (st c)
  isplitl [H13]; · iexact H13
  iintro H13
  iapply (ld c)
  isplitl [H13]; · iexact H13
  iintro H13
  iapply (stLast c)
  isplitl [H13]; · iexact H13
  iintro H13
  iapply Hk $$ H4
  unfold stageX vR
  iexact H13

/-- The listed rows. -/
theorem stageRows_runs (t : Fin k0_t1_loop.trips) (V : Vec F S1x896x8x256 .bf16) (K : PUnit → sProp 𝕄) (l : List (Fin 64)) :
    ∀ Y : Vec F S2x576x128 .f32,
    iprop(owns (c : Thread nD τ) arg4 fullShare V ∗ owns (c : Thread nD τ) arg13 fullShare Y
        ∗ (owns (c : Thread nD τ) arg4 fullShare V -∗ owns (c : Thread nD τ) arg13 fullShare (stageXs t V l Y) -∗ K ⟨⟩))
      ⊢ runs c (stageRows arg4 arg13 t l) K := by
  induction l with
  | nil =>
    intro Y
    iintro ⟨H4, H13, Hk⟩
    iapply (le_wp_ret _ _ _ _ _)
    iapply Hk $$ H4
    iexact H13
  | cons r l ih =>
    intro Y
    rw [stageRows, runs_bind]
    iintro ⟨H4, H13, Hk⟩
    iapply (stageRow_runs c arg4 arg13 t r V Y)
    isplitl [H4]; · iexact H4
    isplitl [H13]; · iexact H13
    iintro H4 H13
    iapply (ih (stageX t V Y r))
    isplitl [H4]; · iexact H4
    isplitl [H13]; · iexact H13
    iexact Hk

/-- The buffers a head reads and leaves as they were. -/
def headIns : sProp 𝕄 :=
  iprop(owns (c : Thread nD τ) arg2 fullShare X.qs ∗ owns (c : Thread nD τ) arg3 fullShare X.ks ∗ owns (c : Thread nD τ) arg7 fullShare X.xc)

/-- One head. -/
theorem headProg_runs (t : Fin k0_t1_loop.trips) (p : Fin 4) (hf : Fin 2) (W : Outs F) (Y : Vec F S2x576x128 .f32) (K : PUnit → sProp 𝕄) :
    iprop(headIns c X arg2 arg3 arg7 ∗ owns (c : Thread nD τ) arg11 fullShare W.1 ∗ owns (c : Thread nD τ) arg12 fullShare W.2
        ∗ owns (c : Thread nD τ) arg13 fullShare Y
        ∗ (headIns c X arg2 arg3 arg7 -∗ owns (c : Thread nD τ) arg11 fullShare (headFn i X t Y p hf W).1
            -∗ owns (c : Thread nD τ) arg12 fullShare (headFn i X t Y p hf W).2 -∗ owns (c : Thread nD τ) arg13 fullShare Y -∗ K ⟨⟩))
      ⊢ runs c (headProg i arg2 arg3 arg7 arg11 harg11 arg12 arg13 t p hf (zIn X t p) (qIn X t p) (kIn X t p) (dIn X t)) K := by
  unfold headProg headIns
  dsimp only [headFn, newS, newO, gather, slS, xIn, sIn]
  iintro ⟨⟨H2, H3, H7⟩, H11, H12, H13, Hk⟩
  iapply (ld c)
  isplitl [H12]; · iexact H12
  iintro H12
  iapply (ld c)
  isplitl [H7]; · iexact H7
  iintro H7
  iapply (ld c)
  isplitl [H13]; · iexact H13
  iintro H13
  iapply (ld c)
  isplitl [H13]; · iexact H13
  iintro H13
  iapply (lds c)
  isplitl [H3]; · iexact H3
  iintro H3
  iapply (ld c)
  isplitl [H12]; · iexact H12
  iintro H12
  iapply (st c)
  isplitl [H12]; · iexact H12
  iintro H12
  iapply (lds c)
  isplitl [H2]; · iexact H2
  iintro H2
  iapply (ld c)
  isplitl [H11]; · iexact H11
  iintro H11
  iapply (stLast c)
  isplitl [H11]; · iexact H11
  iintro H11
  ihave Hin : iprop(owns (c : Thread nD τ) arg2 fullShare X.qs ∗ owns (c : Thread nD τ) arg3 fullShare X.ks ∗ owns (c : Thread nD τ) arg7 fullShare X.xc) $$ [H2 H3 H7]
  · isplitl [H2]; · iexact H2
    isplitl [H3]; · iexact H3
    iexact H7
  iapply Hk $$ Hin [H11] [H12] H13
  · iexact H11
  · iexact H12

/-- The buffers a pair reads and leaves as they were. -/
def pairIns : sProp 𝕄 :=
  iprop(headIns c X arg2 arg3 arg7 ∗ owns (c : Thread nD τ) arg5 fullShare X.z ∗ owns (c : Thread nD τ) arg6 fullShare X.qk ∗ owns (c : Thread nD τ) arg8 fullShare X.kd)

/-- Two heads. -/
theorem pairProg_runs (t : Fin k0_t1_loop.trips) (p : Fin 4) (W : Outs F) (Y : Vec F S2x576x128 .f32) (K : PUnit → sProp 𝕄) :
    iprop(pairIns c X arg2 arg3 arg5 arg6 arg7 arg8 ∗ owns (c : Thread nD τ) arg11 fullShare W.1 ∗ owns (c : Thread nD τ) arg12 fullShare W.2
        ∗ owns (c : Thread nD τ) arg13 fullShare Y
        ∗ (pairIns c X arg2 arg3 arg5 arg6 arg7 arg8 -∗ owns (c : Thread nD τ) arg11 fullShare (pairFn i X t Y p W).1
            -∗ owns (c : Thread nD τ) arg12 fullShare (pairFn i X t Y p W).2 -∗ owns (c : Thread nD τ) arg13 fullShare Y -∗ K ⟨⟩))
      ⊢ runs c (pairProg i arg2 arg3 arg5 arg6 arg7 arg8 arg11 harg11 arg12 arg13 t (dIn X t) p) K := by
  unfold pairProg pairIns
  iintro ⟨⟨Hh, H5, H6, H8⟩, H11, H12, H13, Hk⟩
  iapply (ld c)
  isplitl [H5]; · iexact H5
  iintro H5
  iapply (ld c)
  isplitl [H6]; · iexact H6
  iintro H6
  iapply (ld c)
  isplitl [H8]; · iexact H8
  iintro H8
  rw [runs_bind]
  iapply (headProg_runs c i X arg2 arg3 arg7 arg11 harg11 arg12 arg13 t p 0 W Y)
  isplitl [Hh]; · iexact Hh
  isplitl [H11]; · iexact H11
  isplitl [H12]; · iexact H12
  isplitl [H13]; · iexact H13
  iintro Hh H11 H12 H13
  iapply (headProg_runs c i X arg2 arg3 arg7 arg11 harg11 arg12 arg13 t p 1 (headFn i X t Y p 0 W) Y)
  isplitl [Hh]; · iexact Hh
  isplitl [H11]; · iexact H11
  isplitl [H12]; · iexact H12
  isplitl [H13]; · iexact H13
  iintro Hh H11 H12 H13
  ihave Hin : iprop(headIns c X arg2 arg3 arg7 ∗ owns (c : Thread nD τ) arg5 fullShare X.z ∗ owns (c : Thread nD τ) arg6 fullShare X.qk ∗ owns (c : Thread nD τ) arg8 fullShare X.kd) $$ [Hh H5 H6 H8]
  · isplitl [Hh]; · iexact Hh
    isplitl [H5]; · iexact H5
    isplitl [H6]; · iexact H6
    iexact H8
  unfold pairFn
  iapply Hk $$ Hin H11 H12 H13

/-- The buffers a trip reads and leaves as they were. -/
def tripIns : sProp 𝕄 :=
  iprop(pairIns c X arg2 arg3 arg5 arg6 arg7 arg8 ∗ owns (c : Thread nD τ) arg4 fullShare X.v ∗ owns (c : Thread nD τ) arg9 fullShare X.dec)

/-- One trip. -/
theorem tripProg_runs (t : Fin k0_t1_loop.trips) (W : Outs F × Vec F S2x576x128 .f32) (K : PUnit → sProp 𝕄) :
    iprop(tripIns c X arg2 arg3 arg4 arg5 arg6 arg7 arg8 arg9 ∗ owns (c : Thread nD τ) arg11 fullShare W.1.1 ∗ owns (c : Thread nD τ) arg12 fullShare W.1.2
        ∗ owns (c : Thread nD τ) arg13 fullShare W.2
        ∗ (tripIns c X arg2 arg3 arg4 arg5 arg6 arg7 arg8 arg9 -∗ owns (c : Thread nD τ) arg11 fullShare (tripFn i X t W).1.1
            -∗ owns (c : Thread nD τ) arg12 fullShare (tripFn i X t W).1.2 -∗ owns (c : Thread nD τ) arg13 fullShare (tripFn i X t W).2 -∗ K ⟨⟩))
      ⊢ runs c (tripProg i arg2 arg3 arg4 arg5 arg6 arg7 arg8 arg9 arg11 harg11 arg12 arg13 t) K := by
  unfold tripProg tripIns tripFn headsFn
  rw [runs_bind]
  iintro ⟨⟨Hp, H4, H9⟩, H11, H12, H13, Hk⟩
  iapply (stageRows_runs c arg4 arg13 t X.v)
  isplitl [H4]; · iexact H4
  isplitl [H13]; · iexact H13
  iintro H4 H13
  iapply (ld c)
  isplitl [H9]; · iexact H9
  iintro H9
  rw [runs_bind]
  iapply (pairProg_runs c i X arg2 arg3 arg5 arg6 arg7 arg8 arg11 harg11 arg12 arg13 t 0)
  isplitl [Hp]; · iexact Hp
  isplitl [H11]; · iexact H11
  isplitl [H12]; · iexact H12
  isplitl [H13]; · iexact H13
  iintro Hp H11 H12 H13
  rw [runs_bind]
  iapply (pairProg_runs c i X arg2 arg3 arg5 arg6 arg7 arg8 arg11 harg11 arg12 arg13 t 1)
  isplitl [Hp]; · iexact Hp
  isplitl [H11]; · iexact H11
  isplitl [H12]; · iexact H12
  isplitl [H13]; · iexact H13
  iintro Hp H11 H12 H13
  rw [runs_bind]
  iapply (pairProg_runs c i X arg2 arg3 arg5 arg6 arg7 arg8 arg11 harg11 arg12 arg13 t 2)
  isplitl [Hp]; · iexact Hp
  isplitl [H11]; · iexact H11
  isplitl [H12]; · iexact H12
  isplitl [H13]; · iexact H13
  iintro Hp H11 H12 H13
  iapply (pairProg_runs c i X arg2 arg3 arg5 arg6 arg7 arg8 arg11 harg11 arg12 arg13 t 3)
  isplitl [Hp]; · iexact Hp
  isplitl [H11]; · iexact H11
  isplitl [H12]; · iexact H12
  isplitl [H13]; · iexact H13
  iintro Hp H11 H12 H13
  ihave Hin : iprop(pairIns c X arg2 arg3 arg5 arg6 arg7 arg8 ∗ owns (c : Thread nD τ) arg4 fullShare X.v ∗ owns (c : Thread nD τ) arg9 fullShare X.dec) $$ [Hp H4 H9]
  · isplitl [Hp]; · iexact Hp
    isplitl [H4]; · iexact H4
    iexact H9
  iapply Hk $$ Hin H11 H12 H13

/-- The buffers the body reads and leaves as they were. -/
def bodyIns : sProp 𝕄 :=
  iprop(tripIns c X arg2 arg3 arg4 arg5 arg6 arg7 arg8 arg9 ∗ owns (c : Thread nD τ) arg10 fullShare X.h0)

/-- The state block once the initial state is copied in. -/
def state0 (S : Vec F S1x8x128x256 .f32) : Vec F S1x8x128x256 .f32 :=
  (Rect.unit (s := S1x8x128x256) ![0, 0, 0, 0] S1x8x128x256.size inb_S1x8x128x256_S1x8x128x256_0_0_0_0).overlay S
    (fun j => X.h0 ((Rect.unit (s := S1x8x128x256) ![0, 0, 0, 0] S1x8x128x256.size inb_S1x8x128x256_S1x8x128x256_0_0_0_0).toLoadRect.idx j))

/-- The whole body, from any contents of the outputs and of the scratch. -/
theorem bodyProg_runs (O : Vec F S1x896x2048 .bf16) (S : Vec F S1x8x128x256 .f32) (Y : Vec F S2x576x128 .f32) (K : PUnit → sProp 𝕄) :
    iprop(bodyIns c X arg2 arg3 arg4 arg5 arg6 arg7 arg8 arg9 arg10 ∗ owns (c : Thread nD τ) arg11 fullShare O ∗ owns (c : Thread nD τ) arg12 fullShare S
        ∗ owns (c : Thread nD τ) arg13 fullShare Y
        ∗ (bodyIns c X arg2 arg3 arg4 arg5 arg6 arg7 arg8 arg9 arg10
            -∗ owns (c : Thread nD τ) arg11 fullShare (tripsFn i X ((O, state0 X S), Y) k0_t1_loop.trips).1.1
            -∗ owns (c : Thread nD τ) arg12 fullShare (tripsFn i X ((O, state0 X S), Y) k0_t1_loop.trips).1.2
            -∗ owns (c : Thread nD τ) arg13 fullShare (tripsFn i X ((O, state0 X S), Y) k0_t1_loop.trips).2 -∗ K ⟨⟩))
      ⊢ runs c (bodyProg i arg2 arg3 arg4 arg5 arg6 arg7 arg8 arg9 arg10 arg11 harg11 arg12 arg13) K := by
  unfold bodyProg bodyIns
  iintro ⟨⟨Hi, H10⟩, H11, H12, H13, Hk⟩
  iapply (ld c)
  isplitl [H10]; · iexact H10
  iintro H10
  iapply (ld c)
  isplitl [H12]; · iexact H12
  iintro H12
  iapply (st c)
  isplitl [H12]; · iexact H12
  iintro H12
  rw [runs_bind]
  iapply (Scf.wp_for _ _ _ _ _ _ k0_t1_ok _ _ (fun n _ => iprop(tripIns c X arg2 arg3 arg4 arg5 arg6 arg7 arg8 arg9
      ∗ owns (c : Thread nD τ) arg11 fullShare (tripsFn i X ((O, state0 X S), Y) n).1.1
      ∗ owns (c : Thread nD τ) arg12 fullShare (tripsFn i X ((O, state0 X S), Y) n).1.2
      ∗ owns (c : Thread nD τ) arg13 fullShare (tripsFn i X ((O, state0 X S), Y) n).2)) ?_)
  · intro t _
    iintro ⟨Hi, H11, H12, H13⟩
    rw [tripsFn_succ]
    iapply (tripProg_runs c i X arg2 arg3 arg4 arg5 arg6 arg7 arg8 arg9 arg11 harg11 arg12 arg13 t (tripsFn i X ((O, state0 X S), Y) t.val))
    isplitl [Hi]; · iexact Hi
    isplitl [H11]; · iexact H11
    isplitl [H12]; · iexact H12
    isplitl [H13]; · iexact H13
    iintro Hi H11 H12 H13
    isplitl [Hi]; · iexact Hi
    isplitl [H11]; · iexact H11
    isplitl [H12]; · iexact H12
    iexact H13
  · isplitl [Hi H11 H12 H13]
    · isplitl [Hi]; · iexact Hi
      isplitl [H11]; · iexact H11
      isplitl [H12]; · iexact H12
      iexact H13
    · iintro %_ ⟨Hi, H11, H12, H13⟩
      iapply (le_wp_ret _ _ _ _ _)
      ihave Hin : iprop(tripIns c X arg2 arg3 arg4 arg5 arg6 arg7 arg8 arg9 ∗ owns (c : Thread nD τ) arg10 fullShare X.h0) $$ [Hi H10]
      · isplitl [Hi]; · iexact Hi
        iexact H10
      iapply Hk $$ Hin H11 H12 H13

end Cert.Kernel.Hand

end
-- ==== Proof.K.Indep.lean ====
/-
  The body's outputs do not depend on what the output buffers and the scratch held: the state of a head after `n` trips
  is a fold over its blocks (`stSeq`), its output rows of chunk `t` are read off that fold.
-/
module

public import proofs.«01_k».proof.Proof.K.Fn
public import Idealize.ShloMosaic.Lib.PointwiseCore

@[expose] public section

noncomputable section

namespace Cert.Kernel.Hand

open Cert.Kernel Cert.Kernel.Gen
open Idealize.ShloMosaic

variable {F : FTy → Type} [FloatOps F]

theorem overlay_hit {sh : Shape} {α : Type} (r : Rect sh) (X : sh.Idx → α) (G : r.shape.Idx → α) (y : sh.Idx) (x : r.shape.Idx)
    (hx : ∀ a, (y a).val = r.off a + r.stride a * (x a).val) : r.overlay X G y = G x := by
  rw [← Rect.emb_eq_of_coords r x y hx, Rect.overlay_emb]
theorem overlay_miss {sh : Shape} {α : Type} (r : Rect sh) (X : sh.Idx → α) (G : r.shape.Idx → α) (y : sh.Idx) (a : Fin sh.rank)
    (o n : ℕ) (ho : r.off a = o) (hst : r.stride a = 1) (hn : r.size a = n) (h : (y a).val < o ∨ o + n ≤ (y a).val) :
    r.overlay X G y = X y :=
  Rect.overlay_of_not_mem r X G (Rect.not_mem_set_of_axis r y a o n ho hst hn h)

theorem ex_ix2 {n0 n1 : ℕ} (j : (⟨2, ![n0, n1]⟩ : Shape).Idx) : ∃ (a : Fin n0) (b : Fin n1), j = ix2 a b := ⟨_, _, eq_ix2 j⟩
theorem ex_ix3 {n0 n1 n2 : ℕ} (j : (⟨3, ![n0, n1, n2]⟩ : Shape).Idx) : ∃ (a : Fin n0) (b : Fin n1) (c : Fin n2), j = ix3 a b c := ⟨_, _, _, eq_ix3 j⟩
theorem ex_ix4 {n0 n1 n2 n3 : ℕ} (j : (⟨4, ![n0, n1, n2, n3]⟩ : Shape).Idx) : ∃ (a : Fin n0) (b : Fin n1) (c : Fin n2) (d : Fin n3), j = ix4 a b c d :=
  ⟨_, _, _, _, eq_ix4 j⟩

/-! ## Staging -/

variable (i : grid0.Coords) (X : Ins F)

/-- The scratch at a row's place, after a row is staged. -/
theorem stageX_apply (t : Fin k0_t1_loop.trips) (V : Vec F S1x896x8x256 .bf16) (Y : Vec F S2x576x128 .f32) (r r' : Fin 64)
    (l : Fin 2) (h : Fin 8) (j : Fin 128) :
    stageX t V Y r (ix3 l ⟨9 * r'.val + h.val, by omega⟩ j)
      = if r' = r then vR t r V (ix2 h ⟨128 * l.val + j.val, by omega⟩) else Y (ix3 l ⟨9 * r'.val + h.val, by omega⟩ j) := by
  unfold stageX
  by_cases hr : r' = r
  · subst hr
    rw [if_pos rfl]
    fin_cases l
    · rw [overlay_miss (rStage 1 r') _ _ _ (0 : Fin 3) 1 1 rfl rfl rfl (.inl (by simp)),
        overlay_hit (rStage 0 r') _ _ _ (ix3 (0 : Fin 1) h j) (by intro a; fin_cases a <;> simp [ix3])]
      pointwise
    · rw [overlay_hit (rStage 1 r') _ _ _ (ix3 (0 : Fin 1) h j) (by intro a; fin_cases a <;> simp [ix3])]
      pointwise
  · rw [if_neg hr]
    have hne : r'.val ≠ r.val := fun e => hr (Fin.ext e)
    have hh := h.isLt
    rw [overlay_miss (rStage 1 r) _ _ _ (1 : Fin 3) (9 * r.val) 8 rfl rfl rfl (by show 9 * r'.val + h.val < 9 * r.val ∨ 9 * r.val + 8 ≤ 9 * r'.val + h.val; omega),
      overlay_miss (rStage 0 r) _ _ _ (1 : Fin 3) (9 * r.val) 8 rfl rfl rfl (by show 9 * r'.val + h.val < 9 * r.val ∨ 9 * r.val + 8 ≤ 9 * r'.val + h.val; omega)]

/-- A row that is in the list, or held already, is held after the list is staged. -/
theorem stageXs_apply (t : Fin k0_t1_loop.trips) (V : Vec F S1x896x8x256 .bf16) (r : Fin 64) (l : Fin 2) (h : Fin 8) (j : Fin 128)
    (L : List (Fin 64)) : ∀ (Y : Vec F S2x576x128 .f32),
    (r ∈ L ∨ Y (ix3 l ⟨9 * r.val + h.val, by omega⟩ j) = vR t r V (ix2 h ⟨128 * l.val + j.val, by omega⟩)) →
    stageXs t V L Y (ix3 l ⟨9 * r.val + h.val, by omega⟩ j) = vR t r V (ix2 h ⟨128 * l.val + j.val, by omega⟩) := by
  induction L with
  | nil => intro Y hY; simpa [stageXs] using hY
  | cons r' L ih =>
    intro Y hY
    refine ih (stageX t V Y r') ?_
    by_cases hL : r ∈ L
    · exact .inl hL
    right
    rw [stageX_apply]
    by_cases hr : r = r'
    · subst hr; rw [if_pos rfl]
    · rw [if_neg hr]
      rcases hY with hY | hY
      · rcases List.mem_cons.mp hY with e | e
        · exact absurd e hr
        · exact absurd e hL
      · exact hY

/-- Head `h`'s values of chunk `t`. -/
def vblk (t : Fin k0_t1_loop.trips) (h : Fin 8) (V : Vec F S1x896x8x256 .bf16) : FVec F S64x256 .f32 :=
  fun j => vR t (j 0) V (ix2 h (j 1))

/-- What the scratch holds of a head, once every row is staged, whatever it held before. -/
theorem gather_staged (t : Fin k0_t1_loop.trips) (h : Fin 8) (V : Vec F S1x896x8x256 .bf16) (Y : Vec F S2x576x128 .f32) :
    gather h (stageXs t V (List.finRange 64) Y) = vblk t h V := by
  funext j
  rw [eq_ix2 j]
  generalize j 0 = r
  generalize j 1 = k
  have hr : r.val < 64 := r.isLt
  have hk : k.val < 256 := k.isLt
  have key : ∀ (l : Fin 2) (q : Fin 128), stageXs t V (List.finRange 64) Y (ix3 l ⟨h.val + 9 * r.val, by omega⟩ q)
      = vR t r V (ix2 h ⟨128 * l.val + q.val, by omega⟩) := by
    intro l q
    have := stageXs_apply t V r l h q (List.finRange 64) Y (.inl (List.mem_finRange _))
    rw [← this]; congr 2; exact Fin.ext (Nat.add_comm _ _)
  unfold gather join2
  by_cases hk2 : k.val < 128
  · pointwise [dif_pos hk2]
    refine (key 0 ⟨k.val, hk2⟩).trans ?_
    simp [vblk]
  · pointwise [dif_neg hk2]
    refine (key 1 ⟨k.val - 128, by omega⟩).trans ?_
    simp only [vblk, ix2_0, ix2_1]
    congr 2; apply Fin.ext; show 128 * 1 + (k.val - 128) = k.val; omega

/-! ## The state and output blocks, head by head -/

theorem slS_apply (h : Fin 8) (Y : Vec F S1x8x128x256 .f32) (a : Fin 128) (b : Fin 256) : slS h Y (ix2 a b) = Y (ix4 0 h a b) := by
  unfold slS; pointwise

theorem slS_ext {Y Y' : Vec F S1x8x128x256 .f32} (hy : ∀ h, slS h Y = slS h Y') : Y = Y' := by
  funext y
  obtain ⟨z, h, a, b, rfl⟩ := ex_ix4 y
  obtain rfl : z = 0 := Fin.eq_zero z
  have := congrFun (hy h) (ix2 a b)
  rw [slS_apply, slS_apply] at this
  exact this

theorem slS_overlay (h h' : Fin 8) (Y : Vec F S1x8x128x256 .f32) (s : FVec F S128x256 .f32) :
    slS h' ((rS h).overlay Y (shapeCast S1x1x128x256 s shapeCasts_S128x256_S1x1x128x256)) = if h = h' then s else slS h' Y := by
  funext j
  obtain ⟨a, b, rfl⟩ := ex_ix2 j
  rw [slS_apply]
  by_cases e : h = h'
  · subst e
    rw [if_pos rfl, overlay_hit (rS h) _ _ _ (ix4 (0 : Fin 1) (0 : Fin 1) a b) (by intro a; fin_cases a <;> simp [ix4])]
    pointwise
  · have hne : h.val ≠ h'.val := fun e' => e (Fin.ext e')
    rw [if_neg e, slS_apply, overlay_miss (rS h) _ _ _ (1 : Fin 4) h.val 1 rfl rfl rfl (by show h'.val < h.val ∨ h.val + 1 ≤ h'.val; omega)]

/-- Chunk `t`, head `h` of an output block. -/
def slO (t : Fin k0_t1_loop.trips) (h : Fin 8) (O : Vec F S1x896x2048 .bf16) : FVec F S64x256 .bf16 :=
  fun j => O (ix3 (0 : Fin 1) ⟨64 * t.val + (j 0).val, by have h1 : (j 0).val < 64 := (j 0).isLt; have h2 : t.val < 14 := t.isLt; omega⟩
    ⟨256 * h.val + (j 1).val, by have h1 : (j 1).val < 256 := (j 1).isLt; omega⟩)

theorem slO_ext {O O' : Vec F S1x896x2048 .bf16} (ho : ∀ t h, slO t h O = slO t h O') : O = O' := by
  funext y
  obtain ⟨z, a, b, rfl⟩ := ex_ix3 y
  obtain rfl : z = 0 := Fin.eq_zero z
  have := congrFun (ho ⟨a.val / 64, by show _ < 14; omega⟩ ⟨b.val / 256, by omega⟩) (ix2 ⟨a.val % 64, by omega⟩ ⟨b.val % 256, by omega⟩)
  have e1 : (⟨64 * (a.val / 64) + a.val % 64, by omega⟩ : Fin 896) = a := Fin.ext (Nat.div_add_mod _ _)
  have e2 : (⟨256 * (b.val / 256) + b.val % 256, by omega⟩ : Fin 2048) = b := Fin.ext (Nat.div_add_mod _ _)
  simp only [slO, ix2_0, ix2_1, e1, e2] at this
  exact this

theorem slO_overlay (t t' : Fin k0_t1_loop.trips) (h h' : Fin 8) (O : Vec F S1x896x2048 .bf16) (w : FVec F S64x256 .bf16) :
    slO t' h' ((rO t h).overlay O (shapeCast S1x64x256 w shapeCasts_S64x256_S1x64x256)) = if t = t' ∧ h = h' then w else slO t' h' O := by
  funext j
  obtain ⟨a, b, rfl⟩ := ex_ix2 j
  have h0 : a.val < 64 := a.isLt
  have h1 : b.val < 256 := b.isLt
  have o1 : (rO t h).off (1 : Fin 3) = 64 * t.val := by show offO t h 1 = _; rw [offO_eq]; rfl
  have o2 : (rO t h).off (2 : Fin 3) = 256 * h.val := by show offO t h 2 = _; rw [offO_eq]; rfl
  by_cases et : t = t'
  · by_cases eh : h = h'
    · subst et eh
      rw [if_pos ⟨rfl, rfl⟩]
      refine (overlay_hit (rO t h) _ _ _ (ix3 (0 : Fin 1) a b) ?_).trans ?_
      · intro a
        show _ = offO t h a + 1 * _
        rw [offO_eq]
        fin_cases a <;> simp [ix3]
      · pointwise
    · have hne : h.val ≠ h'.val := fun e' => eh (Fin.ext e')
      rw [if_neg (fun e => eh e.2)]
      exact overlay_miss (rO t h) _ _ _ (2 : Fin 3) (256 * h.val) 256 o2 rfl rfl (by
        show 256 * h'.val + b.val < 256 * h.val ∨ 256 * h.val + 256 ≤ 256 * h'.val + b.val; omega)
  · have hne : t.val ≠ t'.val := fun e' => et (Fin.ext e')
    rw [if_neg (fun e => et e.1)]
    exact overlay_miss (rO t h) _ _ _ (1 : Fin 3) (64 * t.val) 64 o1 rfl rfl (by
      show 64 * t'.val + a.val < 64 * t.val ∨ 64 * t.val + 64 ≤ 64 * t'.val + a.val; omega)

/-! ## One trip, head by head -/

/-- The pair of a head, -/
def pOf (h : Fin 8) : Fin 4 := ⟨h.val % 4, by omega⟩
/-- and its lane half. -/
def hfOf (h : Fin 8) : Fin 2 := ⟨h.val / 4, by omega⟩
theorem headOf_of (h : Fin 8) : headOf (pOf h) (hfOf h) = h := by
  apply Fin.ext; show 4 * (h.val / 4) + h.val % 4 = h.val; omega
theorem headOf_inj : ∀ (p p' : Fin 4) (hf hf' : Fin 2), headOf p hf = headOf p' hf' ↔ p = p' ∧ hf = hf' := by decide

theorem slS_headFn (t : Fin k0_t1_loop.trips) (Y : Vec F S2x576x128 .f32) (p p' : Fin 4) (hf hf' : Fin 2) (W : Outs F) :
    slS (headOf p' hf') (headFn i X t Y p hf W).2
      = if p = p' ∧ hf = hf' then newS i X t p hf (gather (headOf p hf) Y) (slS (headOf p hf) W.2) else slS (headOf p' hf') W.2 := by
  unfold headFn; rw [slS_overlay]; simp only [headOf_inj]
theorem slO_headFn (t t' : Fin k0_t1_loop.trips) (Y : Vec F S2x576x128 .f32) (p p' : Fin 4) (hf hf' : Fin 2) (W : Outs F) :
    slO t' (headOf p' hf') (headFn i X t Y p hf W).1
      = if t = t' ∧ p = p' ∧ hf = hf' then newO i X t p hf (gather (headOf p hf) Y) (slS (headOf p hf) W.2) else slO t' (headOf p' hf') W.1 := by
  unfold headFn; rw [slO_overlay]; simp only [headOf_inj]

theorem slS_headsFn (t : Fin k0_t1_loop.trips) (Y : Vec F S2x576x128 .f32) (p : Fin 4) (hf : Fin 2) (W : Outs F) :
    slS (headOf p hf) (headsFn i X t Y W).2 = newS i X t p hf (gather (headOf p hf) Y) (slS (headOf p hf) W.2) := by
  unfold headsFn pairFn
  fin_cases p <;> fin_cases hf <;> simp [slS_headFn]
theorem slO_headsFn (t t' : Fin k0_t1_loop.trips) (Y : Vec F S2x576x128 .f32) (p : Fin 4) (hf : Fin 2) (W : Outs F) :
    slO t' (headOf p hf) (headsFn i X t Y W).1
      = if t = t' then newO i X t p hf (gather (headOf p hf) Y) (slS (headOf p hf) W.2) else slO t' (headOf p hf) W.1 := by
  unfold headsFn pairFn
  by_cases e : t = t'
  · subst e
    fin_cases p <;> fin_cases hf <;> simp [slO_headFn, slS_headFn]
  · fin_cases p <;> fin_cases hf <;> simp [slO_headFn, slS_headFn, e]

/-! ## All the trips -/

/-- A head's state after `n` trips. -/
def stSeq (h : Fin 8) : ℕ → FVec F S128x256 .f32
  | 0 => slS h X.h0
  | n + 1 => if hn : n < k0_t1_loop.trips then newS i X ⟨n, hn⟩ (pOf h) (hfOf h) (vblk ⟨n, hn⟩ h X.v) (stSeq h n) else stSeq h n

theorem stSeq_succ (h : Fin 8) (t : Fin k0_t1_loop.trips) :
    stSeq i X h (t.val + 1) = newS i X t (pOf h) (hfOf h) (vblk t h X.v) (stSeq i X h t.val) := by
  rw [stSeq, dif_pos t.isLt]

theorem slS_tripsFn (W : Outs F × Vec F S2x576x128 .f32) (h : Fin 8) (h0 : slS h W.1.2 = slS h X.h0) (n : ℕ) (hn : n ≤ k0_t1_loop.trips) :
    slS h (tripsFn i X W n).1.2 = stSeq i X h n := by
  induction n with
  | zero => exact h0
  | succ n ih =>
    have ht : n < k0_t1_loop.trips := hn
    rw [tripsFn_succ i X W ⟨n, ht⟩, stSeq_succ i X h ⟨n, ht⟩, ← ih (Nat.le_of_succ_le hn)]
    unfold tripFn
    have := slS_headsFn i X ⟨n, ht⟩ (stageXs ⟨n, ht⟩ X.v (List.finRange 64) (tripsFn i X W n).2) (pOf h) (hfOf h) (tripsFn i X W n).1
    rw [headOf_of, gather_staged] at this
    exact this

theorem slO_tripsFn (W : Outs F × Vec F S2x576x128 .f32) (h : Fin 8) (h0 : slS h W.1.2 = slS h X.h0) (t : Fin k0_t1_loop.trips) (n : ℕ)
    (hn : n ≤ k0_t1_loop.trips) (htn : t.val < n) :
    slO t h (tripsFn i X W n).1.1 = newO i X t (pOf h) (hfOf h) (vblk t h X.v) (stSeq i X h t.val) := by
  induction n with
  | zero => omega
  | succ n ih =>
    have ht : n < k0_t1_loop.trips := hn
    rw [tripsFn_succ i X W ⟨n, ht⟩]
    unfold tripFn
    have := slO_headsFn i X ⟨n, ht⟩ t (stageXs ⟨n, ht⟩ X.v (List.finRange 64) (tripsFn i X W n).2) (pOf h) (hfOf h) (tripsFn i X W n).1
    rw [headOf_of, gather_staged, slS_tripsFn i X W h h0 n ht.le] at this
    refine this.trans ?_
    by_cases e : n = t.val
    · have e' : (⟨n, ht⟩ : Fin k0_t1_loop.trips) = t := Fin.ext e
      rw [if_pos e', e', e]
    · rw [if_neg (fun e' => e (congrArg Fin.val e'))]
      exact ih ht.le (by omega)

/-- The state block the body leaves. -/
def Sout : Vec F S1x8x128x256 .f32 := fun y => stSeq i X (y 1) k0_t1_loop.trips (ix2 (y 2) (y 3))
/-- The output block the body leaves. -/
def Oout : Vec F S1x896x2048 .bf16 := fun y =>
  have h1 : (y 1).val < 896 := (y 1).isLt
  have h2 : (y 2).val < 2048 := (y 2).isLt
  let t : Fin k0_t1_loop.trips := ⟨(y 1).val / 64, by show _ < 14; omega⟩
  let h : Fin 8 := ⟨(y 2).val / 256, by omega⟩
  newO i X t (pOf h) (hfOf h) (vblk t h X.v) (stSeq i X h t.val) (ix2 ⟨(y 1).val % 64, by omega⟩ ⟨(y 2).val % 256, by omega⟩)

theorem slS_Sout (h : Fin 8) : slS h (Sout i X) = stSeq i X h k0_t1_loop.trips := by
  funext j
  obtain ⟨a, b, rfl⟩ := ex_ix2 j
  rw [slS_apply]; rfl
theorem slO_Oout (t : Fin k0_t1_loop.trips) (h : Fin 8) :
    slO t h (Oout i X) = newO i X t (pOf h) (hfOf h) (vblk t h X.v) (stSeq i X h t.val) := by
  funext j
  obtain ⟨a, b, rfl⟩ := ex_ix2 j
  have key : ∀ (t' : Fin k0_t1_loop.trips) (h' : Fin 8) (r : Fin 64) (k : Fin 256), t' = t → h' = h → r = a → k = b →
      newO i X t' (pOf h') (hfOf h') (vblk t' h' X.v) (stSeq i X h' t'.val) (ix2 r k)
        = newO i X t (pOf h) (hfOf h) (vblk t h X.v) (stSeq i X h t.val) (ix2 a b) := by
    rintro _ _ _ _ rfl rfl rfl rfl; rfl
  exact key _ _ _ _ (Fin.ext (by show (64 * t.val + a.val) / 64 = t.val; omega)) (Fin.ext (by show (256 * h.val + b.val) / 256 = h.val; omega))
    (Fin.ext (by show (64 * t.val + a.val) % 64 = a.val; omega)) (Fin.ext (by show (256 * h.val + b.val) % 256 = b.val; omega))

/-- Whatever the state block and the scratch held, the trips end at these two blocks. -/
theorem tripsFn_out (O : Vec F S1x896x2048 .bf16) (S : Vec F S1x8x128x256 .f32) (Y : Vec F S2x576x128 .f32) (hS : S = X.h0) :
    (tripsFn i X ((O, S), Y) k0_t1_loop.trips).1 = (Oout i X, Sout i X) := by
  subst hS
  refine Prod.ext ?_ ?_
  · exact slO_ext fun t h => (slO_tripsFn i X _ h rfl t _ le_rfl t.isLt).trans (slO_Oout i X t h).symm
  · exact slS_ext fun h => (slS_tripsFn i X _ h rfl _ le_rfl).trans (slS_Sout i X h).symm

end Cert.Kernel.Hand

end
-- ==== Proof.K.Run.lean ====
/-
  The run of the kernel: the body's triple on the staging buffers, the pipeline's proof data, the launch and the frame.
-/
module

public import proofs.«01_k».proof.Proof.K.Triples
public import proofs.«01_k».proof.Proof.K.Indep
public import Idealize.ShloMosaic.Lib.Claim

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, its outputs named -/

/-- Copying the initial state in leaves the state block equal to it. -/
theorem state0_eq (X : Ins F) (S : Vec F S1x8x128x256 .f32) : state0 X S = X.h0 := by
  funext y
  unfold state0
  refine (overlay_hit _ _ _ y y ?_).trans ?_
  · intro a; fin_cases a <;> simp
  · congr 1; funext a; apply Fin.ext; fin_cases a <;> simp

/-- The printed body: from its input buffers at `X` and the other buffers at anything, it leaves the inputs as they were and
    the output blocks at `Oout` and `Sout`. -/
theorem kda_runs (c : Dev nD) (i : grid0.Coords) (X : Ins F)
    (arg2 : Memref sig .tc .smem S14x2x16 .f32) (harg2 : arg2.IsWhole) (arg3 : Memref sig .tc .smem S14x2x16 .f32) (harg3 : arg3.IsWhole)
    (arg4 : Memref sig .tc .vmem S1x896x8x256 .bf16) (harg4 : arg4.IsWhole)
    (arg5 : Memref sig .tc .vmem S1x1x4352x128 .f32) (harg5 : arg5.IsWhole) (arg6 : Memref sig .tc .vmem S1x1x56x64x128 .f32) (harg6 : arg6.IsWhole)
    (arg7 : Memref sig .tc .vmem S1x1x14x8x128x128 .bf16) (harg7 : arg7.IsWhole)
    (arg8 : Memref sig .tc .vmem S1x1x56x128x128 .bf16) (harg8 : arg8.IsWhole) (arg9 : Memref sig .tc .vmem S1x1x14x128x8 .f32) (harg9 : arg9.IsWhole)
    (arg10 : Memref sig .tc .vmem S1x8x128x256 .f32) (harg10 : arg10.IsWhole)
    (arg11 : Memref sig .tc .vmem S1x896x2048 .bf16) (harg11 : arg11.IsWhole) (arg12 : Memref sig .tc .vmem S1x8x128x256 .f32) (harg12 : arg12.IsWhole)
    (arg13 : Memref sig .tc .vmem S2x576x128 .f32) (harg13 : arg13.IsWhole) (K : PUnit → sProp 𝕄) :
    iprop(bodyIns c X arg2 arg3 arg4 arg5 arg6 arg7 arg8 arg9 arg10 ∗ (∃ d, owns (c : Thread nD τ) arg11 fullShare d)
        ∗ (∃ d, owns (c : Thread nD τ) arg12 fullShare d) ∗ (∃ d, owns (c : Thread nD τ) arg13 fullShare d)
        ∗ (bodyIns c X arg2 arg3 arg4 arg5 arg6 arg7 arg8 arg9 arg10
            -∗ owns (c : Thread nD τ) arg11 fullShare (Oout i X) -∗ owns (c : Thread nD τ) arg12 fullShare (Sout i X)
            -∗ (∃ d, owns (c : Thread nD τ) arg13 fullShare d) -∗ K ⟨⟩))
      ⊢ wp frame (wpE (defs₀ (F := F)) Variants.none (c : Thread nD τ) none) Set.univ
          (cc0_kda i arg2 harg2 arg3 harg3 arg4 harg4 arg5 harg5 arg6 harg6 arg7 harg7 arg8 harg8 arg9 harg9 arg10 harg10 arg11 harg11 arg12 harg12 arg13 harg13) K := by
  rw [body_eq]
  iintro ⟨Hi, ⟨%O, H11⟩, ⟨%S, H12⟩, ⟨%Y, H13⟩, Hk⟩
  iapply (bodyProg_runs c i X arg2 arg3 arg4 arg5 arg6 arg7 arg8 arg9 arg10 arg11 harg11 arg12 arg13 O S Y K)
  rw [tripsFn_out i X O (state0 X S) Y (state0_eq X S)]
  isplitl [Hi]; · iexact Hi
  isplitl [H11]; · iexact H11
  isplitl [H12]; · iexact H12
  isplitl [H13]; · iexact H13
  iintro Hi H11 H12 H13
  iapply Hk $$ Hi H11 H12 [H13]
  iexists _; iexact H13

/-! ## The pipeline's proof data -/

/-- The contents of the input buffers at point `t`. -/
def insAt (c : Dev nD) (t : Fin cfg0.N) : Ins F where
  qs := iblk m c 0 t
  ks := iblk m c 1 t
  v := iblk m c 2 t
  z := iblk m c 3 t
  qk := iblk m c 4 t
  xc := iblk m c 5 t
  kd := iblk m c 6 t
  dec := iblk m c 7 t
  h0 := iblk m c 8 t

/-- The proof data of the pipeline on core `c`: each input's buffer stays at its block, each output's is left at the body's
    block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Oout (grid0.coords t) (insAt m c t)
    | ⟨10, _⟩ => Sout (grid0.coords t) (insAt m c t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = Oout (grid0.coords t) (insAt m c t) := by dsimp only [dats]
theorem after0_10 (c : Dev nD) (t : Fin cfg0.N) : (dats m 0 c).after 10 t = Sout (grid0.coords t) (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The invariant, opened: the scratch at some contents, and the generator register. -/
theorem PhiA_eq (c : Dev nD) :
    (Pipeline.ΦA (U := UR sig nD τ) (Val := Elt F) spec0 c : sProp 𝕄)
      = iprop((∃ d, owns (c : Thread nD τ) (Memref.whole cc0_scratch0) fullShare d) ∗ ∃ r, prngReg c r) := by
  unfold Pipeline.ΦA; rw [scopedRest0_eq]; simp only [owns_whole]

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6, after0_7, after0_8, after0_9, after0_10]
  iintro ⟨⟨H13, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  iapply (kda_runs c (grid0.coords t) (insAt m c t))
  isplitl [H2 H3 H4 H5 H6 H7 H8 H9 H10]
  · unfold bodyIns tripIns pairIns headIns insAt
    isplitr [H10]; swap; · iexact H10
    isplitl [H2 H3 H5 H6 H7 H8]
    · isplitl [H2 H3 H7]
      · isplitl [H2]; · iexact H2
        isplitl [H3]; · iexact H3
        iexact H7
      isplitl [H5]; · iexact H5
      isplitl [H6]; · iexact H6
      iexact H8
    isplitl [H4]; · iexact H4
    iexact H9
  isplitl [H11]; · iexists _; iexact H11
  isplitl [H12]; · iexists _; iexact H12
  isplitl [H13]; · iexact H13
  unfold bodyIns tripIns pairIns headIns
  iintro ⟨⟨⟨⟨H2, H3, H7⟩, H5, H6, H8⟩, H4, H9⟩, H10⟩ H11 H12 H13
  isplitl [H13 Hr]
  · isplitl [H13]; · iexact H13
    iexact Hr
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.Step.lean ====
/-
  What one trip of the recurrence computes, as pure functions over any float operations: the three-term split of an
  f32 array into bf16 summands, the two stacked left operands, and the new state and the output block of one head.
-/
module

public import proofs.«01_k».proof.Proof.Gen.KernelIdeal

@[expose] public section

noncomputable section

namespace Cert.KernelIdeal.Hand

open Cert.KernelIdeal Cert.KernelIdeal.Gen
open Idealize.ShloMosaic

variable {F : FTy → Type} [FloatOps F]

/-- The first summand of the split: the array rounded to bf16. -/
def split0 {s : Shape} (x : FVec F s .f32) : FVec F s .bf16 := truncf .bf16 x bitsLt_bf16_f32
/-- What the first summand leaves. -/
def rest1 {s : Shape} (x : FVec F s .f32) : FVec F s .f32 := subf x (extf .f32 (split0 x) bitsLt_bf16_f32)
/-- The second summand: what the first leaves, rounded. -/
def split1 {s : Shape} (x : FVec F s .f32) : FVec F s .bf16 := truncf .bf16 (rest1 x) bitsLt_bf16_f32
/-- The third summand: what the first two leave, rounded. -/
def split2 {s : Shape} (x : FVec F s .f32) : FVec F s .bf16 :=
  truncf .bf16 (subf (rest1 x) (extf .f32 (split1 x) bitsLt_bf16_f32)) bitsLt_bf16_f32

/-- One half of the lanes of a [64, 128] array. -/
def lanes (hf : Fin 2) {t : FTy} (x : FVec F S64x128 t) : FVec F S64x64 t :=
  match hf with
  | 0 => extractStridedSlice S64x64 ![0, 0] x slices_S64x128_o0_0_S64x64
  | 1 => extractStridedSlice S64x64 ![0, 64] x slices_S64x128_o0_64_S64x64
/-- One half of the lanes of a [128, 128] array. -/
def lanesD (hf : Fin 2) {t : FTy} (x : FVec F S128x128 t) : FVec F S128x64 t :=
  match hf with
  | 0 => extractStridedSlice S128x64 ![0, 0] x slices_S128x128_o0_0_S128x64
  | 1 => extractStridedSlice S128x64 ![0, 64] x slices_S128x128_o0_64_S128x64
/-- The head that lane half `hf` of pair `p` holds. -/
def headOf (p : Fin 4) (hf : Fin 2) : Fin 8 := ⟨4 * hf.val + p.val, by omega⟩
/-- Column `h` of the decay table. -/
def decCol (h : Fin 8) (x : FVec F S128x8 .f32) : FVec F S128x1 .f32 :=
  match h with
  | 0 => extractStridedSlice S128x1 ![0, 0] x slices_S128x8_o0_0_S128x1
  | 1 => extractStridedSlice S128x1 ![0, 1] x slices_S128x8_o0_1_S128x1
  | 2 => extractStridedSlice S128x1 ![0, 2] x slices_S128x8_o0_2_S128x1
  | 3 => extractStridedSlice S128x1 ![0, 3] x slices_S128x8_o0_3_S128x1
  | 4 => extractStridedSlice S128x1 ![0, 4] x slices_S128x8_o0_4_S128x1
  | 5 => extractStridedSlice S128x1 ![0, 5] x slices_S128x8_o0_5_S128x1
  | 6 => extractStridedSlice S128x1 ![0, 6] x slices_S128x8_o0_6_S128x1
  | 7 => extractStridedSlice S128x1 ![0, 7] x slices_S128x8_o0_7_S128x1

/-- The bf16 zero block. -/
def zero64 : FVec F S64x64 .bf16 := broadcast S64x64 (Scalar.ofBits .bf16 0x0000#16)

/-- The two-row left operand of the solve's product: `[hi hi hi mid; lo mid 0 0]`. -/
def lhsZ (a b c : FVec F S64x64 .bf16) : FVec F S128x256 .bf16 :=
  concatenate S128x256 0
    [⟨S64x256, concatenate S64x256 1 [⟨S64x64, a⟩, ⟨S64x64, a⟩, ⟨S64x64, a⟩, ⟨S64x64, b⟩] concatenates_S64x64_S64x64_S64x64_S64x64_S64x256_d1⟩,
     ⟨S64x256, concatenate S64x256 1 [⟨S64x64, c⟩, ⟨S64x64, b⟩, ⟨S64x64, zero64⟩, ⟨S64x64, zero64⟩] concatenates_S64x64_S64x64_S64x64_S64x64_S64x256_d1⟩]
    concatenates_S64x256_S64x256_S128x256_d0

/-- The three-row left operand of the last product: the decayed keys over the split query-key block. -/
def lhsE (k : FVec F S128x64 .bf16) (a b c : FVec F S64x64 .bf16) : FVec F S256x256 .bf16 :=
  concatenate S256x256 0
    [⟨S128x256, concatenate S128x256 1 [⟨S128x64, k⟩, ⟨S128x64, k⟩, ⟨S128x64, k⟩, ⟨S128x64, broadcast S128x64 (Scalar.ofBits .bf16 0x0000#16)⟩] concatenates_S128x64_S128x64_S128x64_S128x64_S128x256_d1⟩,
     ⟨S64x256, concatenate S64x256 1 [⟨S64x64, a⟩, ⟨S64x64, a⟩, ⟨S64x64, a⟩, ⟨S64x64, b⟩] concatenates_S64x64_S64x64_S64x64_S64x64_S64x256_d1⟩,
     ⟨S64x256, concatenate S64x256 1 [⟨S64x64, c⟩, ⟨S64x64, b⟩, ⟨S64x64, zero64⟩, ⟨S64x64, zero64⟩] concatenates_S64x64_S64x64_S64x64_S64x64_S64x256_d1⟩]
    concatenates_S128x256_S64x256_S64x256_S256x256_d0

/-- The four-row right operand: `[hi; mid; lo; hi]`. -/
def rhs4 (x : FVec F S64x256 .f32) : FVec F S256x256 .bf16 :=
  concatenate S256x256 0 [⟨S64x256, split0 x⟩, ⟨S64x256, split1 x⟩, ⟨S64x256, split2 x⟩, ⟨S64x256, split0 x⟩]
    concatenates_S64x256_S64x256_S64x256_S64x256_S256x256_d0

/-- The keys and queries against the state, in one product. -/
def xdotS (x : FVec F S128x128 .bf16) (s : FVec F S128x256 .f32) : FVec F S128x256 .f32 :=
  matmul dot_S128x384_S384x256_S128x256_1_0_0_1_n_n none
    (concatenate S128x384 1 [⟨S128x128, x⟩, ⟨S128x128, x⟩, ⟨S128x128, x⟩] concatenates_S128x128_S128x128_S128x128_S128x384_d1)
    (concatenate S384x256 0 [⟨S128x256, split0 s⟩, ⟨S128x256, split1 s⟩, ⟨S128x256, split2 s⟩] concatenates_S128x256_S128x256_S128x256_S384x256_d0)
    (constant S128x256 .f32 0x00000000#32)

/-- The values less the scaled keys against the state. -/
def resid (v : FVec F S64x256 .f32) (ks : F .f32) (xs : FVec F S128x256 .f32) : FVec F S64x256 .f32 :=
  subf v (mulf (broadcast S64x256 ks) (extractStridedSlice S64x256 ![0, 0] xs slices_S128x256_o0_0_S64x256))

/-- The solve's factor against the residual: both rows of the product, added. -/
def wOf (a b c : FVec F S64x64 .bf16) (r : FVec F S64x256 .f32) : FVec F S64x256 .f32 :=
  addf (extractStridedSlice S64x256 ![0, 0]
      (matmul dot_S128x256_S256x256_S128x256_1_0_0_1_n_n none (lhsZ a b c) (rhs4 r) (constant S128x256 .f32 0x00000000#32)) slices_S128x256_o0_0_S64x256)
    (extractStridedSlice S64x256 ![64, 0]
      (matmul dot_S128x256_S256x256_S128x256_1_0_0_1_n_n none (lhsZ a b c) (rhs4 r) (constant S128x256 .f32 0x00000000#32)) slices_S128x256_o64_0_S64x256)

/-- The last product. -/
def eOf (k : FVec F S128x64 .bf16) (a b c : FVec F S64x64 .bf16) (w : FVec F S64x256 .f32) : FVec F S256x256 .f32 :=
  matmul dot_S256x256_S256x256_S256x256_1_0_0_1_n_n none (lhsE k a b c) (rhs4 w) (constant S256x256 .f32 0x00000000#32)

/-- The last product of one head, from the arrays the trip reads. -/
def headE (hf : Fin 2) (z q : FVec F S64x128 .f32) (kd x : FVec F S128x128 .bf16) (ks : F .f32)
    (v : FVec F S64x256 .f32) (s : FVec F S128x256 .f32) : FVec F S256x256 .f32 :=
  eOf (lanesD hf kd) (lanes hf (split0 q)) (lanes hf (split1 q)) (lanes hf (split2 q))
    (wOf (lanes hf (split0 z)) (lanes hf (split1 z)) (lanes hf (split2 z)) (resid v ks (xdotS x s)))

/-- One head's new state. -/
def headS (p : Fin 4) (hf : Fin 2) (z q : FVec F S64x128 .f32) (kd x : FVec F S128x128 .bf16) (d : FVec F S128x8 .f32) (ks : F .f32)
    (v : FVec F S64x256 .f32) (s : FVec F S128x256 .f32) : FVec F S128x256 .f32 :=
  addf (mulf (broadcastTo S128x256 (decCol (headOf p hf) d) broadcasts_S128x1_S128x256) s)
    (extractStridedSlice S128x256 ![0, 0] (headE hf z q kd x ks v s) slices_S256x256_o0_0_S128x256)

/-- One head's output block. -/
def headO (hf : Fin 2) (z q : FVec F S64x128 .f32) (kd x : FVec F S128x128 .bf16) (ks qs : F .f32)
    (v : FVec F S64x256 .f32) (s : FVec F S128x256 .f32) : FVec F S64x256 .bf16 :=
  truncf .bf16 (mulf (broadcast S64x256 (Scalar.mulf qs (Scalar.ofBits .f32 0x3DB504F3#32)))
    (addf (extractStridedSlice S64x256 ![64, 0] (xdotS x s) slices_S128x256_o64_0_S64x256)
      (addf (extractStridedSlice S64x256 ![128, 0] (headE hf z q kd x ks v s) slices_S256x256_o128_0_S64x256)
        (extractStridedSlice S64x256 ![192, 0] (headE hf z q kd x ks v s) slices_S256x256_o192_0_S64x256)))) bitsLt_bf16_f32

/-- The two lane halves of a staged block of values, side by side. -/
def join2 (a b : FVec F S64x128 .f32) : FVec F S64x256 .f32 :=
  concatenate S64x256 1 [⟨S64x128, a⟩, ⟨S64x128, b⟩] concatenates_S64x128_S64x128_S64x256_d1

/-- One row of values, all heads, widened. -/
def vrow (v : FVec F S1x1x8x256 .bf16) : FVec F S8x256 .f32 :=
  extf .f32 (shapeCast S8x256 v shapeCasts_S1x1x8x256_S8x256) bitsLt_bf16_f32

end Cert.KernelIdeal.Hand

end
-- ==== Proof.Tidy.lean ====
/-
  The kernel body, restated with its 64 row copies and its eight heads each written once: `tidy` is the printed
  body, by definitional unfolding.
-/
module

public import proofs.«01_k».proof.Proof.Step
public import Idealize.ShloMosaic.Lib.Pipeline.Regions

@[expose] public section

noncomputable section

namespace Cert.KernelIdeal.Hand

open Cert.KernelIdeal Cert.KernelIdeal.Gen
open Idealize.ShloMosaic Idealize.SL.Sem

variable {F : FTy → Type} [FloatOps F]

/-- Where head `h` of chunk `t` lies in the keys and queries. -/
def offX (t : Fin k0_t1_loop.trips) (h : Fin 8) : Fin 6 → Nat :=
  match h with
  | 0 => k0_off6 t | 1 => k0_off11 t | 2 => k0_off15 t | 3 => k0_off19 t
  | 4 => k0_off9 t | 5 => k0_off13 t | 6 => k0_off17 t | 7 => k0_off21 t
theorem offX_eq (t : Fin k0_t1_loop.trips) (h : Fin 8) : offX t h = ![0, 0, t.val, h.val, 0, 0] := by
  fin_cases h
  · exact k0_off6_eq t
  · exact k0_off11_eq t
  · exact k0_off15_eq t
  · exact k0_off19_eq t
  · exact k0_off9_eq t
  · exact k0_off13_eq t
  · exact k0_off17_eq t
  · exact k0_off21_eq t
theorem offX_inb (t : Fin k0_t1_loop.trips) (h : Fin 8) : ∀ a, (offX t h) a + S1x1x1x1x128x128.size a ≤ S1x1x14x8x128x128.size a := by
  rw [offX_eq]; revert t h; decide +kernel

/-- Where head `h` of chunk `t` lies in the output block. -/
def offO (t : Fin k0_t1_loop.trips) (h : Fin 8) : Fin 3 → Nat :=
  match h with
  | 0 => k0_off8 t | 1 => k0_off12 t | 2 => k0_off16 t | 3 => k0_off20 t
  | 4 => k0_off10 t | 5 => k0_off14 t | 6 => k0_off18 t | 7 => k0_off22 t
theorem offO_eq (t : Fin k0_t1_loop.trips) (h : Fin 8) : offO t h = ![0, 64 * t.val, 256 * h.val] := by
  fin_cases h
  · exact k0_off8_eq t
  · exact k0_off12_eq t
  · exact k0_off16_eq t
  · exact k0_off20_eq t
  · exact k0_off10_eq t
  · exact k0_off14_eq t
  · exact k0_off18_eq t
  · exact k0_off22_eq t
theorem offO_inb (t : Fin k0_t1_loop.trips) (h : Fin 8) : ∀ a, (offO t h) a + S1x64x256.size a ≤ S1x896x2048.size a := by
  rw [offO_eq]; revert t h; decide +kernel
theorem offO_packed (t : Fin k0_t1_loop.trips) (h : Fin 8) :
    (Rect.unit (s := S1x896x2048) (offO t h) S1x64x256.size (offO_inb t h)).PackedRows (EltTy.packing .bf16) := by
  fin_cases h
  · exact k0_off8_packedbf16 t
  · exact k0_off12_packedbf16 t
  · exact k0_off16_packedbf16 t
  · exact k0_off20_packedbf16 t
  · exact k0_off10_packedbf16 t
  · exact k0_off14_packedbf16 t
  · exact k0_off18_packedbf16 t
  · exact k0_off22_packedbf16 t

theorem inbStage : ∀ (l : Fin 2) (r : Fin 64), ∀ a, (![l.val, 9 * r.val, 0] : Fin 3 → Nat) a + S1x8x128.size a ≤ S2x576x128.size a := by decide +kernel
theorem inbGather : ∀ (l : Fin 2) (h : Fin 8), ∀ a, S1x64x128.size a = 0 ∨ (![l.val, h.val, 0] : Fin 3 → Nat) a + (![1, 9, 1] : Fin 3 → Nat) a * (S1x64x128.size a - 1) < S2x576x128.size a := by decide +kernel
theorem inbState : ∀ h : Fin 8, ∀ a, (![0, h.val, 0, 0] : Fin 4 → Nat) a + S1x1x128x256.size a ≤ S1x8x128x256.size a := by decide +kernel

variable (i : grid0.Coords) (arg2 : Memref sig .tc .smem S14x2x16 .f32) (arg3 : Memref sig .tc .smem S14x2x16 .f32) (arg4 : Memref sig .tc .vmem S1x896x8x256 .bf16) (arg5 : Memref sig .tc .vmem S1x1x4352x128 .f32) (arg6 : Memref sig .tc .vmem S1x1x56x64x128 .f32) (arg7 : Memref sig .tc .vmem S1x1x14x8x128x128 .bf16) (arg8 : Memref sig .tc .vmem S1x1x56x128x128 .bf16) (arg9 : Memref sig .tc .vmem S1x1x14x128x8 .f32) (arg10 : Memref sig .tc .vmem S1x8x128x256 .f32) (arg11 : Memref sig .tc .vmem S1x896x2048 .bf16) (harg11 : arg11.IsWhole) (arg12 : Memref sig .tc .vmem S1x8x128x256 .f32) (arg13 : Memref sig .tc .vmem S2x576x128 .f32)

/-- Copy row `r` of chunk `t`'s values, all heads, into the two halves of the scratch. -/
def stageRow (t : Fin k0_t1_loop.trips) (r : Fin 64) : Prog (TpuEff nD τ sig (Elt F) Λ₀ .tc) PUnit := do
  let v : Vec F S1x1x8x256 .bf16 ← Prog.lift (.load arg4 (Rect.unit (s := S1x896x8x256) (k0_off1 t (BitVec.ofNat 32 r.val)) S1x1x8x256.size (k0_off1_inb t r)).toLoadRect (View.loadsAt_vmem h_S1x1x8x256))
  let _ : Vec F S1x8x128 .f32 ← Prog.lift (.load arg13 (Rect.unit (s := S2x576x128) ![(0 : Fin 2).val, 9 * r.val, 0] S1x8x128.size (inbStage 0 r)).toLoadRect (View.loadsAt_vmem h_S1x8x128))
  Prog.lift (.store arg13 (Rect.unit (s := S2x576x128) ![(0 : Fin 2).val, 9 * r.val, 0] S1x8x128.size (inbStage 0 r))
    (shapeCast S1x8x128 (extractStridedSlice S8x128 ![0, 0] (vrow v) slices_S8x256_o0_0_S8x128) shapeCasts_S8x128_S1x8x128) Finset.univ (View.stores_vmem_bits_univ h_S1x8x128 rfl) (.inl rfl))
  let _ : Vec F S1x8x128 .f32 ← Prog.lift (.load arg13 (Rect.unit (s := S2x576x128) ![(1 : Fin 2).val, 9 * r.val, 0] S1x8x128.size (inbStage 1 r)).toLoadRect (View.loadsAt_vmem h_S1x8x128))
  Prog.lift (.store arg13 (Rect.unit (s := S2x576x128) ![(1 : Fin 2).val, 9 * r.val, 0] S1x8x128.size (inbStage 1 r))
    (shapeCast S1x8x128 (extractStridedSlice S8x128 ![0, 128] (vrow v) slices_S8x256_o0_128_S8x128) shapeCasts_S8x128_S1x8x128) Finset.univ (View.stores_vmem_bits_univ h_S1x8x128 rfl) (.inl rfl))

/-- Copy the listed rows, in order. -/
def stageRows (t : Fin k0_t1_loop.trips) : List (Fin 64) → Prog (TpuEff nD τ sig (Elt F) Λ₀ .tc) PUnit
  | [] => pure ⟨⟩
  | r :: rs => do stageRow arg4 arg13 t r; stageRows t rs

/-- One head of one trip: read its state, its keys and queries and its staged values; leave its new state and its
    output rows. -/
def headProg (t : Fin k0_t1_loop.trips) (p : Fin 4) (hf : Fin 2) (z q : FVec F S64x128 .f32) (kd : FVec F S128x128 .bf16) (d : FVec F S128x8 .f32) :
    Prog (TpuEff nD τ sig (Elt F) Λ₀ .tc) PUnit := do
  let s : Vec F S1x1x128x256 .f32 ← Prog.lift (.load arg12 (Rect.unit (s := S1x8x128x256) ![0, (headOf p hf).val, 0, 0] S1x1x128x256.size (inbState (headOf p hf))).toLoadRect (View.loadsAt_vmem h_S1x1x128x256))
  let x : Vec F S1x1x1x1x128x128 .bf16 ← Prog.lift (.load arg7 (Rect.unit (s := S1x1x14x8x128x128) (offX t (headOf p hf)) S1x1x1x1x128x128.size (offX_inb t (headOf p hf))).toLoadRect (View.loadsAt_vmem h_S1x1x1x1x128x128))
  let va : Vec F S1x64x128 .f32 ← Prog.lift (.load arg13 (⟨![(0 : Fin 2).val, (headOf p hf).val, 0], S1x64x128.size, ![1, 9, 1], inbGather 0 (headOf p hf)⟩ : LoadRect S2x576x128) (View.loadsAt_vmem h_S1x64x128))
  let vb : Vec F S1x64x128 .f32 ← Prog.lift (.load arg13 (⟨![(1 : Fin 2).val, (headOf p hf).val, 0], S1x64x128.size, ![1, 9, 1], inbGather 1 (headOf p hf)⟩ : LoadRect S2x576x128) (View.loadsAt_vmem h_S1x64x128))
  let ks : Elt F .f32 ← smemLoad arg3 (Rect.unit (s := S14x2x16) (k0_off7 i t (BitVec.ofNat 32 (headOf p hf).val)) S1x1x1.size (k0_off7_inb i t (headOf p hf))) numel1_S1x1x1 rfl
  let _ : Vec F S1x1x128x256 .f32 ← Prog.lift (.load arg12 (Rect.unit (s := S1x8x128x256) ![0, (headOf p hf).val, 0, 0] S1x1x128x256.size (inbState (headOf p hf))).toLoadRect (View.loadsAt_vmem h_S1x1x128x256))
  Prog.lift (.store arg12 (Rect.unit (s := S1x8x128x256) ![0, (headOf p hf).val, 0, 0] S1x1x128x256.size (inbState (headOf p hf)))
    (shapeCast S1x1x128x256 (headS p hf z q kd (shapeCast S128x128 x shapeCasts_S1x1x1x1x128x128_S128x128) d ks
      (join2 (shapeCast S64x128 va shapeCasts_S1x64x128_S64x128) (shapeCast S64x128 vb shapeCasts_S1x64x128_S64x128))
      (shapeCast S128x256 s shapeCasts_S1x1x128x256_S128x256)) shapeCasts_S128x256_S1x1x128x256)
    Finset.univ (View.stores_vmem_bits_univ h_S1x1x128x256 rfl) (.inl rfl))
  let qs : Elt F .f32 ← smemLoad arg2 (Rect.unit (s := S14x2x16) (k0_off7 i t (BitVec.ofNat 32 (headOf p hf).val)) S1x1x1.size (k0_off7_inb i t (headOf p hf))) numel1_S1x1x1 rfl
  let _ : Vec F S1x64x256 .bf16 ← Prog.lift (.load arg11 (Rect.unit (s := S1x896x2048) (offO t (headOf p hf)) S1x64x256.size (offO_inb t (headOf p hf))).toLoadRect (View.loadsAt_vmem h_S1x64x256))
  Prog.lift (.store arg11 (Rect.unit (s := S1x896x2048) (offO t (headOf p hf)) S1x64x256.size (offO_inb t (headOf p hf)))
    (shapeCast S1x64x256 (headO hf z q kd (shapeCast S128x128 x shapeCasts_S1x1x1x1x128x128_S128x128) ks qs
      (join2 (shapeCast S64x128 va shapeCasts_S1x64x128_S64x128) (shapeCast S64x128 vb shapeCasts_S1x64x128_S64x128))
      (shapeCast S128x256 s shapeCasts_S1x1x128x256_S128x256)) shapeCasts_S64x256_S1x64x256)
    Finset.univ (View.stores_vmem h_S1x64x256 (harg11.storeExact_slice rfl _ (offO_packed t (headOf p hf))) (fun _ => rfl)) (.inl rfl))

/-- The two heads of a pair: the pair's three factor blocks are read once. -/
def pairProg (t : Fin k0_t1_loop.trips) (d : FVec F S128x8 .f32) (p : Fin 4) : Prog (TpuEff nD τ sig (Elt F) Λ₀ .tc) PUnit := do
  let z : Vec F S1x1x64x128 .f32 ← Prog.lift (.load arg5 (⟨k0_off3 t (BitVec.ofNat 32 p.val), S1x1x64x128.size, ![1, 1, 68, 1], (k0_off3_inb t p)⟩ : LoadRect S1x1x4352x128) (View.loadsAt_vmem h_S1x1x64x128))
  let q : Vec F S1x1x1x64x128 .f32 ← Prog.lift (.load arg6 (Rect.unit (s := S1x1x56x64x128) (k0_off4 t (BitVec.ofNat 32 p.val)) S1x1x1x64x128.size (k0_off4_inb t p)).toLoadRect (View.loadsAt_vmem h_S1x1x1x64x128))
  let kd : Vec F S1x1x1x128x128 .bf16 ← Prog.lift (.load arg8 (Rect.unit (s := S1x1x56x128x128) (k0_off5 t (BitVec.ofNat 32 p.val)) S1x1x1x128x128.size (k0_off5_inb t p)).toLoadRect (View.loadsAt_vmem h_S1x1x1x128x128))
  headProg i arg2 arg3 arg7 arg11 harg11 arg12 arg13 t p 0 (shapeCast S64x128 z shapeCasts_S1x1x64x128_S64x128) (shapeCast S64x128 q shapeCasts_S1x1x1x64x128_S64x128) (shapeCast S128x128 kd shapeCasts_S1x1x1x128x128_S128x128) d
  headProg i arg2 arg3 arg7 arg11 harg11 arg12 arg13 t p 1 (shapeCast S64x128 z shapeCasts_S1x1x64x128_S64x128) (shapeCast S64x128 q shapeCasts_S1x1x1x64x128_S64x128) (shapeCast S128x128 kd shapeCasts_S1x1x1x128x128_S128x128) d

/-- One trip: stage the chunk's values, read the decay, then the four pairs. -/
def tripProg (t : Fin k0_t1_loop.trips) : Prog (TpuEff nD τ sig (Elt F) Λ₀ .tc) PUnit := do
  stageRows arg4 arg13 t (List.finRange 64)
  let d : Vec F S1x1x1x128x8 .f32 ← Prog.lift (.load arg9 (Rect.unit (s := S1x1x14x128x8) (k0_off2 t) S1x1x1x128x8.size (k0_off2_inb t)).toLoadRect (View.loadsAt_vmem h_S1x1x1x128x8))
  pairProg i arg2 arg3 arg5 arg6 arg7 arg8 arg11 harg11 arg12 arg13 t (shapeCast S128x8 d shapeCasts_S1x1x1x128x8_S128x8) 0
  pairProg i arg2 arg3 arg5 arg6 arg7 arg8 arg11 harg11 arg12 arg13 t (shapeCast S128x8 d shapeCasts_S1x1x1x128x8_S128x8) 1
  pairProg i arg2 arg3 arg5 arg6 arg7 arg8 arg11 harg11 arg12 arg13 t (shapeCast S128x8 d shapeCasts_S1x1x1x128x8_S128x8) 2
  pairProg i arg2 arg3 arg5 arg6 arg7 arg8 arg11 harg11 arg12 arg13 t (shapeCast S128x8 d shapeCasts_S1x1x1x128x8_S128x8) 3

/-- The body: the state starts at the initial state; then the trips. -/
def bodyProg : Prog (TpuEff nD τ sig (Elt F) Λ₀ .tc) PUnit := do
  let h : Vec F S1x8x128x256 .f32 ← Prog.lift (.load arg10 (Rect.unit (s := S1x8x128x256) ![0, 0, 0, 0] S1x8x128x256.size inb_S1x8x128x256_S1x8x128x256_0_0_0_0).toLoadRect (View.loadsAt_vmem h_S1x8x128x256))
  let _ : Vec F S1x8x128x256 .f32 ← Prog.lift (.load arg12 (Rect.unit (s := S1x8x128x256) ![0, 0, 0, 0] S1x8x128x256.size inb_S1x8x128x256_S1x8x128x256_0_0_0_0).toLoadRect (View.loadsAt_vmem h_S1x8x128x256))
  Prog.lift (.store arg12 (Rect.unit (s := S1x8x128x256) ![0, 0, 0, 0] S1x8x128x256.size inb_S1x8x128x256_S1x8x128x256_0_0_0_0) h Finset.univ (View.stores_vmem_bits_univ h_S1x8x128x256 rfl) (.inl rfl))
  Scf.Loop.for k0_t1_loop k0_t1_ok ⟨⟩ fun t _ => tripProg i arg2 arg3 arg4 arg5 arg6 arg7 arg8 arg9 arg11 harg11 arg12 arg13 t
  pure ⟨⟩

set_option maxRecDepth 65536 in
/-- The printed body is the tidy one. -/
theorem body_eq (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg12 : arg12.IsWhole) (harg13 : arg13.IsWhole) :
    cc0_kda (F := F) i arg2 harg2 arg3 harg3 arg4 harg4 arg5 harg5 arg6 harg6 arg7 harg7 arg8 harg8 arg9 harg9 arg10 harg10 arg11 harg11 arg12 harg12 arg13 harg13
      = bodyProg i arg2 arg3 arg4 arg5 arg6 arg7 arg8 arg9 arg10 arg11 harg11 arg12 arg13 := by
  chain_rfl

end Cert.KernelIdeal.Hand

end
-- ==== Proof.Rules.lean ====
/-
  One rule for each effect of the body, with the buffers held at read contents (`owns`): a load continues at what it
  reads, a store leaves the contents overlaid with what it wrote.
-/
module

public import proofs.«01_k».proof.Proof.Tidy
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body run on core `c`, to the continuation `K`. -/
abbrev runs (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

variable (c : Dev nD) {sh : Shape} {e : EltTy} {α β : Type}

theorem runs_bind (p : Prog (TpuEff nD τ sig (Elt F) Λ₀ .tc) β) (k : β → Prog (TpuEff nD τ sig (Elt F) Λ₀ .tc) α) (K : α → sProp 𝕄) :
    runs c (p >>= k) K = runs c p (fun x => runs c (k x) K) := wp_bind _ _ _ _ _ _

/-- A load at the head of a program continues at the values it reads. -/
theorem ld {cs : CoreSpace} {m : Memref sig .tc cs sh e} {r : LoadRect sh} {hl : m.view.LoadsAt r} {q : PosShare TreeShare}
    {X : sh.Idx → Elt F e} {k : (r.shape.Idx → Elt F e) → Prog (TpuEff nD τ sig (Elt F) Λ₀ .tc) α} {K : α → sProp 𝕄} :
    iprop(owns (c : Thread nD τ) m q X ∗ (owns (c : Thread nD τ) m q X -∗ runs c (k (fun j => X (r.idx j))) K))
      ⊢ runs c (Prog.lift (.load m r hl) >>= k) K := by
  rw [Prog.bind_lift]
  unfold owns
  iintro ⟨⟨%f, %hf, H⟩, Hk⟩
  subst hf
  iapply (wp_load (m := m) (hl := hl) Variants.none (c : Thread nD τ) none Set.univ (View.setOn_subset_set _ _)) $$ H
  iintro H
  iapply Hk
  iexists f
  isplitr; · ipureintro; rfl
  iexact H

/-- A word read from scalar memory. -/
theorem lds {m : Memref sig .tc .smem sh e} {r : Rect sh} {h1 : r.shape.numel = 1} {hp : e.packing = 1} {q : PosShare TreeShare}
    {X : sh.Idx → Elt F e} {k : Elt F e → Prog (TpuEff nD τ sig (Elt F) Λ₀ .tc) α} {K : α → sProp 𝕄} :
    iprop(owns (c : Thread nD τ) m q X ∗ (owns (c : Thread nD τ) m q X -∗ runs c (k (X (r.idx (Shape.Idx.first (h1.symm ▸ Nat.one_pos))))) K))
      ⊢ runs c (smemLoad m r h1 hp >>= k) K :=
  ld (cs := .smem) (k := fun f => k (f (Shape.Idx.first (h1.symm ▸ Nat.one_pos)))) (hl := View.loadsAt_rect (View.loads_smem_one hp h1)) c

/-- A store at the head of a program leaves the contents overlaid with what it wrote. -/
theorem st {cs : CoreSpace} {m : Memref sig .tc cs sh e} {r : Rect sh} {w : r.shape.Idx → Elt F e}
    {hx : (m.access r).Stores Finset.univ} {hm : Finset.univ = Finset.univ ∨ ∀ a, r.stride a = 1}
    {X : sh.Idx → Elt F e} {k : PUnit → Prog (TpuEff nD τ sig (Elt F) Λ₀ .tc) α} {K : α → sProp 𝕄} :
    iprop(owns (c : Thread nD τ) m fullShare X ∗ (owns (c : Thread nD τ) m fullShare (r.overlay X w) -∗ runs c (k ⟨⟩) K))
      ⊢ runs c (Prog.lift (.store m r w Finset.univ hx hm) >>= k) K := by
  rw [Prog.bind_lift]
  unfold owns
  iintro ⟨⟨%f, %hf, H⟩, Hk⟩
  subst hf
  iapply (wp_store (m := m) (hx := hx) (hm := hm) (w := w) (Mk := Finset.univ) Variants.none (c : Thread nD τ) none Set.univ (Memref.setOn_access_subset _ _ _)) $$ H
  iintro H
  iapply Hk
  iexists _
  isplitr; swap; · iexact H
  ipureintro
  funext j
  by_cases hj : j ∈ r.set
  · rw [← Rect.map_emb_univ] at hj
    obtain ⟨x, -, rfl⟩ := Finset.mem_map.mp hj
    rw [Rect.overlay_emb]
    exact View.read_slice_write_emb r f w (Finset.mem_univ x)
  · rw [Rect.overlay_of_not_mem r _ _ hj]
    exact View.read_slice_write_of_not_mem r f w _ (by rw [Rect.map_emb_univ]; exact hj)

/-- The same where the store ends the program. -/
theorem stLast {cs : CoreSpace} {m : Memref sig .tc cs sh e} {r : Rect sh} {w : r.shape.Idx → Elt F e}
    {hx : (m.access r).Stores Finset.univ} {hm : Finset.univ = Finset.univ ∨ ∀ a, r.stride a = 1}
    {X : sh.Idx → Elt F e} {K : PUnit → sProp 𝕄} :
    iprop(owns (c : Thread nD τ) m fullShare X ∗ (owns (c : Thread nD τ) m fullShare (r.overlay X w) -∗ K ⟨⟩))
      ⊢ runs c (Prog.lift (.store m r w Finset.univ hx hm)) K := by
  have h := st (F := F) c (hx := hx) (hm := hm) (w := w) (X := X) (k := fun u => Prog.ret u) (K := K)
  refine BIBase.Entails.trans ?_ h
  iintro ⟨H, Hk⟩
  isplitl [H]; · iexact H
  iintro H
  iapply (le_wp_ret _ _ _ _ _)
  iapply Hk
  iexact H

end Cert.KernelIdeal.Hand

end
-- ==== Proof.Fn.lean ====
/-
  What the body does to the contents of its buffers, as functions: a row staged, a head, a trip, all the trips.
-/
module

public import proofs.«01_k».proof.Proof.Tidy
public import Idealize.ShloMosaic.Lib.Memref

@[expose] public section

noncomputable section

namespace Cert.KernelIdeal.Hand

open Cert.KernelIdeal Cert.KernelIdeal.Gen
open Idealize.ShloMosaic

variable {F : FTy → Type} [FloatOps F]

/-! ## The rectangles -/

/-- Row `r` of chunk `t` in the values. -/
abbrev rV (t : Fin k0_t1_loop.trips) (r : Fin 64) : Rect S1x896x8x256 :=
  Rect.unit (s := S1x896x8x256) (k0_off1 t (BitVec.ofNat 32 r.val)) S1x1x8x256.size (k0_off1_inb t r)
/-- Row `r`'s place in half `l` of the scratch. -/
abbrev rStage (l : Fin 2) (r : Fin 64) : Rect S2x576x128 :=
  Rect.unit (s := S2x576x128) ![l.val, 9 * r.val, 0] S1x8x128.size (inbStage l r)
/-- Head `h`'s rows in half `l` of the scratch. -/
abbrev rGather (l : Fin 2) (h : Fin 8) : LoadRect S2x576x128 :=
  ⟨![l.val, h.val, 0], S1x64x128.size, ![1, 9, 1], inbGather l h⟩
/-- Head `h` of the state block. -/
abbrev rS (h : Fin 8) : Rect S1x8x128x256 := Rect.unit (s := S1x8x128x256) ![0, h.val, 0, 0] S1x1x128x256.size (inbState h)
/-- Head `h`, chunk `t` of the output block. -/
abbrev rO (t : Fin k0_t1_loop.trips) (h : Fin 8) : Rect S1x896x2048 := Rect.unit (s := S1x896x2048) (offO t h) S1x64x256.size (offO_inb t h)
/-- Head `h`, chunk `t` of the keys and queries. -/
abbrev rX (t : Fin k0_t1_loop.trips) (h : Fin 8) : Rect S1x1x14x8x128x128 :=
  Rect.unit (s := S1x1x14x8x128x128) (offX t h) S1x1x1x1x128x128.size (offX_inb t h)
/-- Chunk `t` of the decays. -/
abbrev rD (t : Fin k0_t1_loop.trips) : Rect S1x1x14x128x8 := Rect.unit (s := S1x1x14x128x8) (k0_off2 t) S1x1x1x128x8.size (k0_off2_inb t)
/-- Chunk `t`, pair `p` of the solve's factor: rows 68 apart. -/
abbrev rZ (t : Fin k0_t1_loop.trips) (p : Fin 4) : LoadRect S1x1x4352x128 :=
  ⟨k0_off3 t (BitVec.ofNat 32 p.val), S1x1x64x128.size, ![1, 1, 68, 1], (k0_off3_inb t p)⟩
/-- Chunk `t`, pair `p` of the query-key blocks. -/
abbrev rQ (t : Fin k0_t1_loop.trips) (p : Fin 4) : Rect S1x1x56x64x128 :=
  Rect.unit (s := S1x1x56x64x128) (k0_off4 t (BitVec.ofNat 32 p.val)) S1x1x1x64x128.size (k0_off4_inb t p)
/-- Chunk `t`, pair `p` of the decayed keys. -/
abbrev rK (t : Fin k0_t1_loop.trips) (p : Fin 4) : Rect S1x1x56x128x128 :=
  Rect.unit (s := S1x1x56x128x128) (k0_off5 t (BitVec.ofNat 32 p.val)) S1x1x1x128x128.size (k0_off5_inb t p)
/-- Chunk `t`, head `h` of a scale table, at grid point `i`. -/
abbrev rT (i : grid0.Coords) (t : Fin k0_t1_loop.trips) (h : Fin 8) : Rect S14x2x16 :=
  Rect.unit (s := S14x2x16) (k0_off7 i t (BitVec.ofNat 32 h.val)) S1x1x1.size (k0_off7_inb i t h)

/-- The contents of the body's nine input buffers. -/
structure Ins (F : FTy → Type) where
  /-- The queries' scales. -/
  qs : Vec F S14x2x16 .f32
  /-- The keys' scales. -/
  ks : Vec F S14x2x16 .f32
  /-- The values. -/
  v : Vec F S1x896x8x256 .bf16
  /-- The solve's factors. -/
  z : Vec F S1x1x4352x128 .f32
  /-- The query-key blocks. -/
  qk : Vec F S1x1x56x64x128 .f32
  /-- The keys and queries. -/
  xc : Vec F S1x1x14x8x128x128 .bf16
  /-- The decayed keys. -/
  kd : Vec F S1x1x56x128x128 .bf16
  /-- The decays. -/
  dec : Vec F S1x1x14x128x8 .f32
  /-- The initial state. -/
  h0 : Vec F S1x8x128x256 .f32

/-! ## What is read -/

variable (i : grid0.Coords) (X : Ins F)

/-- Row `r` of chunk `t`. -/
def vR (t : Fin k0_t1_loop.trips) (r : Fin 64) (V : Vec F S1x896x8x256 .bf16) : FVec F S8x256 .f32 := vrow (fun j => V ((rV t r).toLoadRect.idx j))
/-- The scratch after row `r` of chunk `t` is staged. -/
def stageX (t : Fin k0_t1_loop.trips) (V : Vec F S1x896x8x256 .bf16) (Y : Vec F S2x576x128 .f32) (r : Fin 64) : Vec F S2x576x128 .f32 :=
  (rStage 1 r).overlay ((rStage 0 r).overlay Y
      (shapeCast S1x8x128 (extractStridedSlice S8x128 ![0, 0] (vR t r V) slices_S8x256_o0_0_S8x128) shapeCasts_S8x128_S1x8x128))
    (shapeCast S1x8x128 (extractStridedSlice S8x128 ![0, 128] (vR t r V) slices_S8x256_o0_128_S8x128) shapeCasts_S8x128_S1x8x128)
/-- The scratch after the listed rows are staged. -/
def stageXs (t : Fin k0_t1_loop.trips) (V : Vec F S1x896x8x256 .bf16) (l : List (Fin 64)) (Y : Vec F S2x576x128 .f32) : Vec F S2x576x128 .f32 :=
  l.foldl (stageX t V) Y
/-- Head `h`'s values as the scratch holds them. -/
def gather (h : Fin 8) (Y : Vec F S2x576x128 .f32) : FVec F S64x256 .f32 :=
  join2 (shapeCast S64x128 (fun j => Y ((rGather 0 h).idx j) : FVec F S1x64x128 .f32) shapeCasts_S1x64x128_S64x128)
    (shapeCast S64x128 (fun j => Y ((rGather 1 h).idx j) : FVec F S1x64x128 .f32) shapeCasts_S1x64x128_S64x128)
/-- The solve's factor of a pair. -/
def zIn (t : Fin k0_t1_loop.trips) (p : Fin 4) : FVec F S64x128 .f32 :=
  shapeCast S64x128 (fun j => X.z ((rZ t p).idx j) : FVec F S1x1x64x128 .f32) shapeCasts_S1x1x64x128_S64x128
/-- The query-key blocks of a pair. -/
def qIn (t : Fin k0_t1_loop.trips) (p : Fin 4) : FVec F S64x128 .f32 :=
  shapeCast S64x128 (fun j => X.qk ((rQ t p).toLoadRect.idx j) : FVec F S1x1x1x64x128 .f32) shapeCasts_S1x1x1x64x128_S64x128
/-- The decayed keys of a pair. -/
def kIn (t : Fin k0_t1_loop.trips) (p : Fin 4) : FVec F S128x128 .bf16 :=
  shapeCast S128x128 (fun j => X.kd ((rK t p).toLoadRect.idx j) : FVec F S1x1x1x128x128 .bf16) shapeCasts_S1x1x1x128x128_S128x128
/-- The decays of a chunk. -/
def dIn (t : Fin k0_t1_loop.trips) : FVec F S128x8 .f32 :=
  shapeCast S128x8 (fun j => X.dec ((rD t).toLoadRect.idx j) : FVec F S1x1x1x128x8 .f32) shapeCasts_S1x1x1x128x8_S128x8
/-- The keys and queries of a head. -/
def xIn (t : Fin k0_t1_loop.trips) (h : Fin 8) : FVec F S128x128 .bf16 :=
  shapeCast S128x128 (fun j => X.xc ((rX t h).toLoadRect.idx j) : FVec F S1x1x1x1x128x128 .bf16) shapeCasts_S1x1x1x1x128x128_S128x128
/-- A head's scale. -/
def sIn (T : Vec F S14x2x16 .f32) (t : Fin k0_t1_loop.trips) (h : Fin 8) : F .f32 := T ((rT i t h).idx (Shape.Idx.first (numel1_S1x1x1.symm ▸ Nat.one_pos)))
/-- Head `h` of a state block. -/
def slS (h : Fin 8) (Y : Vec F S1x8x128x256 .f32) : FVec F S128x256 .f32 :=
  shapeCast S128x256 (fun j => Y ((rS h).toLoadRect.idx j) : FVec F S1x1x128x256 .f32) shapeCasts_S1x1x128x256_S128x256

/-! ## What is written -/

/-- The contents of the output block and of the state block. -/
abbrev Outs (F : FTy → Type) := Vec F S1x896x2048 .bf16 × Vec F S1x8x128x256 .f32

/-- One head's new state, from its old one and its values. -/
def newS (t : Fin k0_t1_loop.trips) (p : Fin 4) (hf : Fin 2) (v : FVec F S64x256 .f32) (s : FVec F S128x256 .f32) : FVec F S128x256 .f32 :=
  headS p hf (zIn X t p) (qIn X t p) (kIn X t p) (xIn X t (headOf p hf)) (dIn X t) (sIn i X.ks t (headOf p hf)) v s
/-- One head's output rows. -/
def newO (t : Fin k0_t1_loop.trips) (p : Fin 4) (hf : Fin 2) (v : FVec F S64x256 .f32) (s : FVec F S128x256 .f32) : FVec F S64x256 .bf16 :=
  headO hf (zIn X t p) (qIn X t p) (kIn X t p) (xIn X t (headOf p hf)) (sIn i X.ks t (headOf p hf)) (sIn i X.qs t (headOf p hf)) v s

/-- One head. -/
def headFn (t : Fin k0_t1_loop.trips) (Y : Vec F S2x576x128 .f32) (p : Fin 4) (hf : Fin 2) (W : Outs F) : Outs F :=
  ((rO t (headOf p hf)).overlay W.1 (shapeCast S1x64x256 (newO i X t p hf (gather (headOf p hf) Y) (slS (headOf p hf) W.2)) shapeCasts_S64x256_S1x64x256),
   (rS (headOf p hf)).overlay W.2 (shapeCast S1x1x128x256 (newS i X t p hf (gather (headOf p hf) Y) (slS (headOf p hf) W.2)) shapeCasts_S128x256_S1x1x128x256))
/-- The two heads of a pair. -/
def pairFn (t : Fin k0_t1_loop.trips) (Y : Vec F S2x576x128 .f32) (p : Fin 4) (W : Outs F) : Outs F :=
  headFn i X t Y p 1 (headFn i X t Y p 0 W)
/-- The eight heads. -/
def headsFn (t : Fin k0_t1_loop.trips) (Y : Vec F S2x576x128 .f32) (W : Outs F) : Outs F :=
  pairFn i X t Y 3 (pairFn i X t Y 2 (pairFn i X t Y 1 (pairFn i X t Y 0 W)))
/-- One trip: the outputs and the scratch. -/
def tripFn (t : Fin k0_t1_loop.trips) (W : Outs F × Vec F S2x576x128 .f32) : Outs F × Vec F S2x576x128 .f32 :=
  (headsFn i X t (stageXs t X.v (List.finRange 64) W.2) W.1, stageXs t X.v (List.finRange 64) W.2)
/-- The first `n` trips. -/
def tripsFn (W : Outs F × Vec F S2x576x128 .f32) : ℕ → Outs F × Vec F S2x576x128 .f32
  | 0 => W
  | n + 1 => if h : n < k0_t1_loop.trips then tripFn i X ⟨n, h⟩ (tripsFn W n) else tripsFn W n

theorem tripsFn_succ (W : Outs F × Vec F S2x576x128 .f32) (t : Fin k0_t1_loop.trips) :
    tripsFn i X W (t.val + 1) = tripFn i X t (tripsFn i X W t.val) := by
  rw [tripsFn, dif_pos t.isLt]

end Cert.KernelIdeal.Hand

end
-- ==== Proof.Triples.lean ====
/-
  The body's triple: from its input buffers at contents `X` and the others at any contents, it leaves the inputs as
  they were and the others at the functions of `Fn.lean`.
-/
module

public import proofs.«01_k».proof.Proof.Rules
public import proofs.«01_k».proof.Proof.Fn

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (X : Ins F)
variable (arg2 : Memref sig .tc .smem S14x2x16 .f32) (arg3 : Memref sig .tc .smem S14x2x16 .f32) (arg4 : Memref sig .tc .vmem S1x896x8x256 .bf16)
  (arg5 : Memref sig .tc .vmem S1x1x4352x128 .f32) (arg6 : Memref sig .tc .vmem S1x1x56x64x128 .f32) (arg7 : Memref sig .tc .vmem S1x1x14x8x128x128 .bf16)
  (arg8 : Memref sig .tc .vmem S1x1x56x128x128 .bf16) (arg9 : Memref sig .tc .vmem S1x1x14x128x8 .f32) (arg10 : Memref sig .tc .vmem S1x8x128x256 .f32)
  (arg11 : Memref sig .tc .vmem S1x896x2048 .bf16) (harg11 : arg11.IsWhole) (arg12 : Memref sig .tc .vmem S1x8x128x256 .f32) (arg13 : Memref sig .tc .vmem S2x576x128 .f32)

/-- A staged row. -/
theorem stageRow_runs (t : Fin k0_t1_loop.trips) (r : Fin 64) (V : Vec F S1x896x8x256 .bf16) (Y : Vec F S2x576x128 .f32) (K : PUnit → sProp 𝕄) :
    iprop(owns (c : Thread nD τ) arg4 fullShare V ∗ owns (c : Thread nD τ) arg13 fullShare Y
        ∗ (owns (c : Thread nD τ) arg4 fullShare V -∗ owns (c : Thread nD τ) arg13 fullShare (stageX t V Y r) -∗ K ⟨⟩))
      ⊢ runs c (stageRow arg4 arg13 t r) K := by
  unfold stageRow
  iintro ⟨H4, H13, Hk⟩
  iapply (ld c)
  isplitl [H4]; · iexact H4
  iintro H4
  iapply (ld c)
  isplitl [H13]; · iexact H13
  iintro H13
  iapply (st c)
  isplitl [H13]; · iexact H13
  iintro H13
  iapply (ld c)
  isplitl [H13]; · iexact H13
  iintro H13
  iapply (stLast c)
  isplitl [H13]; · iexact H13
  iintro H13
  iapply Hk $$ H4
  unfold stageX vR
  iexact H13

/-- The listed rows. -/
theorem stageRows_runs (t : Fin k0_t1_loop.trips) (V : Vec F S1x896x8x256 .bf16) (K : PUnit → sProp 𝕄) (l : List (Fin 64)) :
    ∀ Y : Vec F S2x576x128 .f32,
    iprop(owns (c : Thread nD τ) arg4 fullShare V ∗ owns (c : Thread nD τ) arg13 fullShare Y
        ∗ (owns (c : Thread nD τ) arg4 fullShare V -∗ owns (c : Thread nD τ) arg13 fullShare (stageXs t V l Y) -∗ K ⟨⟩))
      ⊢ runs c (stageRows arg4 arg13 t l) K := by
  induction l with
  | nil =>
    intro Y
    iintro ⟨H4, H13, Hk⟩
    iapply (le_wp_ret _ _ _ _ _)
    iapply Hk $$ H4
    iexact H13
  | cons r l ih =>
    intro Y
    rw [stageRows, runs_bind]
    iintro ⟨H4, H13, Hk⟩
    iapply (stageRow_runs c arg4 arg13 t r V Y)
    isplitl [H4]; · iexact H4
    isplitl [H13]; · iexact H13
    iintro H4 H13
    iapply (ih (stageX t V Y r))
    isplitl [H4]; · iexact H4
    isplitl [H13]; · iexact H13
    iexact Hk

/-- The buffers a head reads and leaves as they were. -/
def headIns : sProp 𝕄 :=
  iprop(owns (c : Thread nD τ) arg2 fullShare X.qs ∗ owns (c : Thread nD τ) arg3 fullShare X.ks ∗ owns (c : Thread nD τ) arg7 fullShare X.xc)

/-- One head. -/
theorem headProg_runs (t : Fin k0_t1_loop.trips) (p : Fin 4) (hf : Fin 2) (W : Outs F) (Y : Vec F S2x576x128 .f32) (K : PUnit → sProp 𝕄) :
    iprop(headIns c X arg2 arg3 arg7 ∗ owns (c : Thread nD τ) arg11 fullShare W.1 ∗ owns (c : Thread nD τ) arg12 fullShare W.2
        ∗ owns (c : Thread nD τ) arg13 fullShare Y
        ∗ (headIns c X arg2 arg3 arg7 -∗ owns (c : Thread nD τ) arg11 fullShare (headFn i X t Y p hf W).1
            -∗ owns (c : Thread nD τ) arg12 fullShare (headFn i X t Y p hf W).2 -∗ owns (c : Thread nD τ) arg13 fullShare Y -∗ K ⟨⟩))
      ⊢ runs c (headProg i arg2 arg3 arg7 arg11 harg11 arg12 arg13 t p hf (zIn X t p) (qIn X t p) (kIn X t p) (dIn X t)) K := by
  unfold headProg headIns
  dsimp only [headFn, newS, newO, gather, slS, xIn, sIn]
  iintro ⟨⟨H2, H3, H7⟩, H11, H12, H13, Hk⟩
  iapply (ld c)
  isplitl [H12]; · iexact H12
  iintro H12
  iapply (ld c)
  isplitl [H7]; · iexact H7
  iintro H7
  iapply (ld c)
  isplitl [H13]; · iexact H13
  iintro H13
  iapply (ld c)
  isplitl [H13]; · iexact H13
  iintro H13
  iapply (lds c)
  isplitl [H3]; · iexact H3
  iintro H3
  iapply (ld c)
  isplitl [H12]; · iexact H12
  iintro H12
  iapply (st c)
  isplitl [H12]; · iexact H12
  iintro H12
  iapply (lds c)
  isplitl [H2]; · iexact H2
  iintro H2
  iapply (ld c)
  isplitl [H11]; · iexact H11
  iintro H11
  iapply (stLast c)
  isplitl [H11]; · iexact H11
  iintro H11
  ihave Hin : iprop(owns (c : Thread nD τ) arg2 fullShare X.qs ∗ owns (c : Thread nD τ) arg3 fullShare X.ks ∗ owns (c : Thread nD τ) arg7 fullShare X.xc) $$ [H2 H3 H7]
  · isplitl [H2]; · iexact H2
    isplitl [H3]; · iexact H3
    iexact H7
  iapply Hk $$ Hin [H11] [H12] H13
  · iexact H11
  · iexact H12

/-- The buffers a pair reads and leaves as they were. -/
def pairIns : sProp 𝕄 :=
  iprop(headIns c X arg2 arg3 arg7 ∗ owns (c : Thread nD τ) arg5 fullShare X.z ∗ owns (c : Thread nD τ) arg6 fullShare X.qk ∗ owns (c : Thread nD τ) arg8 fullShare X.kd)

/-- Two heads. -/
theorem pairProg_runs (t : Fin k0_t1_loop.trips) (p : Fin 4) (W : Outs F) (Y : Vec F S2x576x128 .f32) (K : PUnit → sProp 𝕄) :
    iprop(pairIns c X arg2 arg3 arg5 arg6 arg7 arg8 ∗ owns (c : Thread nD τ) arg11 fullShare W.1 ∗ owns (c : Thread nD τ) arg12 fullShare W.2
        ∗ owns (c : Thread nD τ) arg13 fullShare Y
        ∗ (pairIns c X arg2 arg3 arg5 arg6 arg7 arg8 -∗ owns (c : Thread nD τ) arg11 fullShare (pairFn i X t Y p W).1
            -∗ owns (c : Thread nD τ) arg12 fullShare (pairFn i X t Y p W).2 -∗ owns (c : Thread nD τ) arg13 fullShare Y -∗ K ⟨⟩))
      ⊢ runs c (pairProg i arg2 arg3 arg5 arg6 arg7 arg8 arg11 harg11 arg12 arg13 t (dIn X t) p) K := by
  unfold pairProg pairIns
  iintro ⟨⟨Hh, H5, H6, H8⟩, H11, H12, H13, Hk⟩
  iapply (ld c)
  isplitl [H5]; · iexact H5
  iintro H5
  iapply (ld c)
  isplitl [H6]; · iexact H6
  iintro H6
  iapply (ld c)
  isplitl [H8]; · iexact H8
  iintro H8
  rw [runs_bind]
  iapply (headProg_runs c i X arg2 arg3 arg7 arg11 harg11 arg12 arg13 t p 0 W Y)
  isplitl [Hh]; · iexact Hh
  isplitl [H11]; · iexact H11
  isplitl [H12]; · iexact H12
  isplitl [H13]; · iexact H13
  iintro Hh H11 H12 H13
  iapply (headProg_runs c i X arg2 arg3 arg7 arg11 harg11 arg12 arg13 t p 1 (headFn i X t Y p 0 W) Y)
  isplitl [Hh]; · iexact Hh
  isplitl [H11]; · iexact H11
  isplitl [H12]; · iexact H12
  isplitl [H13]; · iexact H13
  iintro Hh H11 H12 H13
  ihave Hin : iprop(headIns c X arg2 arg3 arg7 ∗ owns (c : Thread nD τ) arg5 fullShare X.z ∗ owns (c : Thread nD τ) arg6 fullShare X.qk ∗ owns (c : Thread nD τ) arg8 fullShare X.kd) $$ [Hh H5 H6 H8]
  · isplitl [Hh]; · iexact Hh
    isplitl [H5]; · iexact H5
    isplitl [H6]; · iexact H6
    iexact H8
  unfold pairFn
  iapply Hk $$ Hin H11 H12 H13

/-- The buffers a trip reads and leaves as they were. -/
def tripIns : sProp 𝕄 :=
  iprop(pairIns c X arg2 arg3 arg5 arg6 arg7 arg8 ∗ owns (c : Thread nD τ) arg4 fullShare X.v ∗ owns (c : Thread nD τ) arg9 fullShare X.dec)

/-- One trip. -/
theorem tripProg_runs (t : Fin k0_t1_loop.trips) (W : Outs F × Vec F S2x576x128 .f32) (K : PUnit → sProp 𝕄) :
    iprop(tripIns c X arg2 arg3 arg4 arg5 arg6 arg7 arg8 arg9 ∗ owns (c : Thread nD τ) arg11 fullShare W.1.1 ∗ owns (c : Thread nD τ) arg12 fullShare W.1.2
        ∗ owns (c : Thread nD τ) arg13 fullShare W.2
        ∗ (tripIns c X arg2 arg3 arg4 arg5 arg6 arg7 arg8 arg9 -∗ owns (c : Thread nD τ) arg11 fullShare (tripFn i X t W).1.1
            -∗ owns (c : Thread nD τ) arg12 fullShare (tripFn i X t W).1.2 -∗ owns (c : Thread nD τ) arg13 fullShare (tripFn i X t W).2 -∗ K ⟨⟩))
      ⊢ runs c (tripProg i arg2 arg3 arg4 arg5 arg6 arg7 arg8 arg9 arg11 harg11 arg12 arg13 t) K := by
  unfold tripProg tripIns tripFn headsFn
  rw [runs_bind]
  iintro ⟨⟨Hp, H4, H9⟩, H11, H12, H13, Hk⟩
  iapply (stageRows_runs c arg4 arg13 t X.v)
  isplitl [H4]; · iexact H4
  isplitl [H13]; · iexact H13
  iintro H4 H13
  iapply (ld c)
  isplitl [H9]; · iexact H9
  iintro H9
  rw [runs_bind]
  iapply (pairProg_runs c i X arg2 arg3 arg5 arg6 arg7 arg8 arg11 harg11 arg12 arg13 t 0)
  isplitl [Hp]; · iexact Hp
  isplitl [H11]; · iexact H11
  isplitl [H12]; · iexact H12
  isplitl [H13]; · iexact H13
  iintro Hp H11 H12 H13
  rw [runs_bind]
  iapply (pairProg_runs c i X arg2 arg3 arg5 arg6 arg7 arg8 arg11 harg11 arg12 arg13 t 1)
  isplitl [Hp]; · iexact Hp
  isplitl [H11]; · iexact H11
  isplitl [H12]; · iexact H12
  isplitl [H13]; · iexact H13
  iintro Hp H11 H12 H13
  rw [runs_bind]
  iapply (pairProg_runs c i X arg2 arg3 arg5 arg6 arg7 arg8 arg11 harg11 arg12 arg13 t 2)
  isplitl [Hp]; · iexact Hp
  isplitl [H11]; · iexact H11
  isplitl [H12]; · iexact H12
  isplitl [H13]; · iexact H13
  iintro Hp H11 H12 H13
  iapply (pairProg_runs c i X arg2 arg3 arg5 arg6 arg7 arg8 arg11 harg11 arg12 arg13 t 3)
  isplitl [Hp]; · iexact Hp
  isplitl [H11]; · iexact H11
  isplitl [H12]; · iexact H12
  isplitl [H13]; · iexact H13
  iintro Hp H11 H12 H13
  ihave Hin : iprop(pairIns c X arg2 arg3 arg5 arg6 arg7 arg8 ∗ owns (c : Thread nD τ) arg4 fullShare X.v ∗ owns (c : Thread nD τ) arg9 fullShare X.dec) $$ [Hp H4 H9]
  · isplitl [Hp]; · iexact Hp
    isplitl [H4]; · iexact H4
    iexact H9
  iapply Hk $$ Hin H11 H12 H13

/-- The buffers the body reads and leaves as they were. -/
def bodyIns : sProp 𝕄 :=
  iprop(tripIns c X arg2 arg3 arg4 arg5 arg6 arg7 arg8 arg9 ∗ owns (c : Thread nD τ) arg10 fullShare X.h0)

/-- The state block once the initial state is copied in. -/
def state0 (S : Vec F S1x8x128x256 .f32) : Vec F S1x8x128x256 .f32 :=
  (Rect.unit (s := S1x8x128x256) ![0, 0, 0, 0] S1x8x128x256.size inb_S1x8x128x256_S1x8x128x256_0_0_0_0).overlay S
    (fun j => X.h0 ((Rect.unit (s := S1x8x128x256) ![0, 0, 0, 0] S1x8x128x256.size inb_S1x8x128x256_S1x8x128x256_0_0_0_0).toLoadRect.idx j))

/-- The whole body, from any contents of the outputs and of the scratch. -/
theorem bodyProg_runs (O : Vec F S1x896x2048 .bf16) (S : Vec F S1x8x128x256 .f32) (Y : Vec F S2x576x128 .f32) (K : PUnit → sProp 𝕄) :
    iprop(bodyIns c X arg2 arg3 arg4 arg5 arg6 arg7 arg8 arg9 arg10 ∗ owns (c : Thread nD τ) arg11 fullShare O ∗ owns (c : Thread nD τ) arg12 fullShare S
        ∗ owns (c : Thread nD τ) arg13 fullShare Y
        ∗ (bodyIns c X arg2 arg3 arg4 arg5 arg6 arg7 arg8 arg9 arg10
            -∗ owns (c : Thread nD τ) arg11 fullShare (tripsFn i X ((O, state0 X S), Y) k0_t1_loop.trips).1.1
            -∗ owns (c : Thread nD τ) arg12 fullShare (tripsFn i X ((O, state0 X S), Y) k0_t1_loop.trips).1.2
            -∗ owns (c : Thread nD τ) arg13 fullShare (tripsFn i X ((O, state0 X S), Y) k0_t1_loop.trips).2 -∗ K ⟨⟩))
      ⊢ runs c (bodyProg i arg2 arg3 arg4 arg5 arg6 arg7 arg8 arg9 arg10 arg11 harg11 arg12 arg13) K := by
  unfold bodyProg bodyIns
  iintro ⟨⟨Hi, H10⟩, H11, H12, H13, Hk⟩
  iapply (ld c)
  isplitl [H10]; · iexact H10
  iintro H10
  iapply (ld c)
  isplitl [H12]; · iexact H12
  iintro H12
  iapply (st c)
  isplitl [H12]; · iexact H12
  iintro H12
  rw [runs_bind]
  iapply (Scf.wp_for _ _ _ _ _ _ k0_t1_ok _ _ (fun n _ => iprop(tripIns c X arg2 arg3 arg4 arg5 arg6 arg7 arg8 arg9
      ∗ owns (c : Thread nD τ) arg11 fullShare (tripsFn i X ((O, state0 X S), Y) n).1.1
      ∗ owns (c : Thread nD τ) arg12 fullShare (tripsFn i X ((O, state0 X S), Y) n).1.2
      ∗ owns (c : Thread nD τ) arg13 fullShare (tripsFn i X ((O, state0 X S), Y) n).2)) ?_)
  · intro t _
    iintro ⟨Hi, H11, H12, H13⟩
    rw [tripsFn_succ]
    iapply (tripProg_runs c i X arg2 arg3 arg4 arg5 arg6 arg7 arg8 arg9 arg11 harg11 arg12 arg13 t (tripsFn i X ((O, state0 X S), Y) t.val))
    isplitl [Hi]; · iexact Hi
    isplitl [H11]; · iexact H11
    isplitl [H12]; · iexact H12
    isplitl [H13]; · iexact H13
    iintro Hi H11 H12 H13
    isplitl [Hi]; · iexact Hi
    isplitl [H11]; · iexact H11
    isplitl [H12]; · iexact H12
    iexact H13
  · isplitl [Hi H11 H12 H13]
    · isplitl [Hi]; · iexact Hi
      isplitl [H11]; · iexact H11
      isplitl [H12]; · iexact H12
      iexact H13
    · iintro %_ ⟨Hi, H11, H12, H13⟩
      iapply (le_wp_ret _ _ _ _ _)
      ihave Hin : iprop(tripIns c X arg2 arg3 arg4 arg5 arg6 arg7 arg8 arg9 ∗ owns (c : Thread nD τ) arg10 fullShare X.h0) $$ [Hi H10]
      · isplitl [Hi]; · iexact Hi
        iexact H10
      iapply Hk $$ Hin H11 H12 H13

end Cert.KernelIdeal.Hand

end
-- ==== Proof.Indep.lean ====
/-
  The body's outputs do not depend on what the output buffers and the scratch held: the state of a head after `n` trips
  is a fold over its blocks (`stSeq`), its output rows of chunk `t` are read off that fold.
-/
module

public import proofs.«01_k».proof.Proof.Fn
public import Idealize.ShloMosaic.Lib.PointwiseCore

@[expose] public section

noncomputable section

namespace Cert.KernelIdeal.Hand

open Cert.KernelIdeal Cert.KernelIdeal.Gen
open Idealize.ShloMosaic

variable {F : FTy → Type} [FloatOps F]

theorem overlay_hit {sh : Shape} {α : Type} (r : Rect sh) (X : sh.Idx → α) (G : r.shape.Idx → α) (y : sh.Idx) (x : r.shape.Idx)
    (hx : ∀ a, (y a).val = r.off a + r.stride a * (x a).val) : r.overlay X G y = G x := by
  rw [← Rect.emb_eq_of_coords r x y hx, Rect.overlay_emb]
theorem overlay_miss {sh : Shape} {α : Type} (r : Rect sh) (X : sh.Idx → α) (G : r.shape.Idx → α) (y : sh.Idx) (a : Fin sh.rank)
    (o n : ℕ) (ho : r.off a = o) (hst : r.stride a = 1) (hn : r.size a = n) (h : (y a).val < o ∨ o + n ≤ (y a).val) :
    r.overlay X G y = X y :=
  Rect.overlay_of_not_mem r X G (Rect.not_mem_set_of_axis r y a o n ho hst hn h)

theorem ex_ix2 {n0 n1 : ℕ} (j : (⟨2, ![n0, n1]⟩ : Shape).Idx) : ∃ (a : Fin n0) (b : Fin n1), j = ix2 a b := ⟨_, _, eq_ix2 j⟩
theorem ex_ix3 {n0 n1 n2 : ℕ} (j : (⟨3, ![n0, n1, n2]⟩ : Shape).Idx) : ∃ (a : Fin n0) (b : Fin n1) (c : Fin n2), j = ix3 a b c := ⟨_, _, _, eq_ix3 j⟩
theorem ex_ix4 {n0 n1 n2 n3 : ℕ} (j : (⟨4, ![n0, n1, n2, n3]⟩ : Shape).Idx) : ∃ (a : Fin n0) (b : Fin n1) (c : Fin n2) (d : Fin n3), j = ix4 a b c d :=
  ⟨_, _, _, _, eq_ix4 j⟩

/-! ## Staging -/

variable (i : grid0.Coords) (X : Ins F)

/-- The scratch at a row's place, after a row is staged. -/
theorem stageX_apply (t : Fin k0_t1_loop.trips) (V : Vec F S1x896x8x256 .bf16) (Y : Vec F S2x576x128 .f32) (r r' : Fin 64)
    (l : Fin 2) (h : Fin 8) (j : Fin 128) :
    stageX t V Y r (ix3 l ⟨9 * r'.val + h.val, by omega⟩ j)
      = if r' = r then vR t r V (ix2 h ⟨128 * l.val + j.val, by omega⟩) else Y (ix3 l ⟨9 * r'.val + h.val, by omega⟩ j) := by
  unfold stageX
  by_cases hr : r' = r
  · subst hr
    rw [if_pos rfl]
    fin_cases l
    · rw [overlay_miss (rStage 1 r') _ _ _ (0 : Fin 3) 1 1 rfl rfl rfl (.inl (by simp)),
        overlay_hit (rStage 0 r') _ _ _ (ix3 (0 : Fin 1) h j) (by intro a; fin_cases a <;> simp [ix3])]
      pointwise
    · rw [overlay_hit (rStage 1 r') _ _ _ (ix3 (0 : Fin 1) h j) (by intro a; fin_cases a <;> simp [ix3])]
      pointwise
  · rw [if_neg hr]
    have hne : r'.val ≠ r.val := fun e => hr (Fin.ext e)
    have hh := h.isLt
    rw [overlay_miss (rStage 1 r) _ _ _ (1 : Fin 3) (9 * r.val) 8 rfl rfl rfl (by show 9 * r'.val + h.val < 9 * r.val ∨ 9 * r.val + 8 ≤ 9 * r'.val + h.val; omega),
      overlay_miss (rStage 0 r) _ _ _ (1 : Fin 3) (9 * r.val) 8 rfl rfl rfl (by show 9 * r'.val + h.val < 9 * r.val ∨ 9 * r.val + 8 ≤ 9 * r'.val + h.val; omega)]

/-- A row that is in the list, or held already, is held after the list is staged. -/
theorem stageXs_apply (t : Fin k0_t1_loop.trips) (V : Vec F S1x896x8x256 .bf16) (r : Fin 64) (l : Fin 2) (h : Fin 8) (j : Fin 128)
    (L : List (Fin 64)) : ∀ (Y : Vec F S2x576x128 .f32),
    (r ∈ L ∨ Y (ix3 l ⟨9 * r.val + h.val, by omega⟩ j) = vR t r V (ix2 h ⟨128 * l.val + j.val, by omega⟩)) →
    stageXs t V L Y (ix3 l ⟨9 * r.val + h.val, by omega⟩ j) = vR t r V (ix2 h ⟨128 * l.val + j.val, by omega⟩) := by
  induction L with
  | nil => intro Y hY; simpa [stageXs] using hY
  | cons r' L ih =>
    intro Y hY
    refine ih (stageX t V Y r') ?_
    by_cases hL : r ∈ L
    · exact .inl hL
    right
    rw [stageX_apply]
    by_cases hr : r = r'
    · subst hr; rw [if_pos rfl]
    · rw [if_neg hr]
      rcases hY with hY | hY
      · rcases List.mem_cons.mp hY with e | e
        · exact absurd e hr
        · exact absurd e hL
      · exact hY

/-- Head `h`'s values of chunk `t`. -/
def vblk (t : Fin k0_t1_loop.trips) (h : Fin 8) (V : Vec F S1x896x8x256 .bf16) : FVec F S64x256 .f32 :=
  fun j => vR t (j 0) V (ix2 h (j 1))

/-- What the scratch holds of a head, once every row is staged, whatever it held before. -/
theorem gather_staged (t : Fin k0_t1_loop.trips) (h : Fin 8) (V : Vec F S1x896x8x256 .bf16) (Y : Vec F S2x576x128 .f32) :
    gather h (stageXs t V (List.finRange 64) Y) = vblk t h V := by
  funext j
  rw [eq_ix2 j]
  generalize j 0 = r
  generalize j 1 = k
  have hr : r.val < 64 := r.isLt
  have hk : k.val < 256 := k.isLt
  have key : ∀ (l : Fin 2) (q : Fin 128), stageXs t V (List.finRange 64) Y (ix3 l ⟨h.val + 9 * r.val, by omega⟩ q)
      = vR t r V (ix2 h ⟨128 * l.val + q.val, by omega⟩) := by
    intro l q
    have := stageXs_apply t V r l h q (List.finRange 64) Y (.inl (List.mem_finRange _))
    rw [← this]; congr 2; exact Fin.ext (Nat.add_comm _ _)
  unfold gather join2
  by_cases hk2 : k.val < 128
  · pointwise [dif_pos hk2]
    refine (key 0 ⟨k.val, hk2⟩).trans ?_
    simp [vblk]
  · pointwise [dif_neg hk2]
    refine (key 1 ⟨k.val - 128, by omega⟩).trans ?_
    simp only [vblk, ix2_0, ix2_1]
    congr 2; apply Fin.ext; show 128 * 1 + (k.val - 128) = k.val; omega

/-! ## The state and output blocks, head by head -/

theorem slS_apply (h : Fin 8) (Y : Vec F S1x8x128x256 .f32) (a : Fin 128) (b : Fin 256) : slS h Y (ix2 a b) = Y (ix4 0 h a b) := by
  unfold slS; pointwise

theorem slS_ext {Y Y' : Vec F S1x8x128x256 .f32} (hy : ∀ h, slS h Y = slS h Y') : Y = Y' := by
  funext y
  obtain ⟨z, h, a, b, rfl⟩ := ex_ix4 y
  obtain rfl : z = 0 := Fin.eq_zero z
  have := congrFun (hy h) (ix2 a b)
  rw [slS_apply, slS_apply] at this
  exact this

theorem slS_overlay (h h' : Fin 8) (Y : Vec F S1x8x128x256 .f32) (s : FVec F S128x256 .f32) :
    slS h' ((rS h).overlay Y (shapeCast S1x1x128x256 s shapeCasts_S128x256_S1x1x128x256)) = if h = h' then s else slS h' Y := by
  funext j
  obtain ⟨a, b, rfl⟩ := ex_ix2 j
  rw [slS_apply]
  by_cases e : h = h'
  · subst e
    rw [if_pos rfl, overlay_hit (rS h) _ _ _ (ix4 (0 : Fin 1) (0 : Fin 1) a b) (by intro a; fin_cases a <;> simp [ix4])]
    pointwise
  · have hne : h.val ≠ h'.val := fun e' => e (Fin.ext e')
    rw [if_neg e, slS_apply, overlay_miss (rS h) _ _ _ (1 : Fin 4) h.val 1 rfl rfl rfl (by show h'.val < h.val ∨ h.val + 1 ≤ h'.val; omega)]

/-- Chunk `t`, head `h` of an output block. -/
def slO (t : Fin k0_t1_loop.trips) (h : Fin 8) (O : Vec F S1x896x2048 .bf16) : FVec F S64x256 .bf16 :=
  fun j => O (ix3 (0 : Fin 1) ⟨64 * t.val + (j 0).val, by have h1 : (j 0).val < 64 := (j 0).isLt; have h2 : t.val < 14 := t.isLt; omega⟩
    ⟨256 * h.val + (j 1).val, by have h1 : (j 1).val < 256 := (j 1).isLt; omega⟩)

theorem slO_ext {O O' : Vec F S1x896x2048 .bf16} (ho : ∀ t h, slO t h O = slO t h O') : O = O' := by
  funext y
  obtain ⟨z, a, b, rfl⟩ := ex_ix3 y
  obtain rfl : z = 0 := Fin.eq_zero z
  have := congrFun (ho ⟨a.val / 64, by show _ < 14; omega⟩ ⟨b.val / 256, by omega⟩) (ix2 ⟨a.val % 64, by omega⟩ ⟨b.val % 256, by omega⟩)
  have e1 : (⟨64 * (a.val / 64) + a.val % 64, by omega⟩ : Fin 896) = a := Fin.ext (Nat.div_add_mod _ _)
  have e2 : (⟨256 * (b.val / 256) + b.val % 256, by omega⟩ : Fin 2048) = b := Fin.ext (Nat.div_add_mod _ _)
  simp only [slO, ix2_0, ix2_1, e1, e2] at this
  exact this

theorem slO_overlay (t t' : Fin k0_t1_loop.trips) (h h' : Fin 8) (O : Vec F S1x896x2048 .bf16) (w : FVec F S64x256 .bf16) :
    slO t' h' ((rO t h).overlay O (shapeCast S1x64x256 w shapeCasts_S64x256_S1x64x256)) = if t = t' ∧ h = h' then w else slO t' h' O := by
  funext j
  obtain ⟨a, b, rfl⟩ := ex_ix2 j
  have h0 : a.val < 64 := a.isLt
  have h1 : b.val < 256 := b.isLt
  have o1 : (rO t h).off (1 : Fin 3) = 64 * t.val := by show offO t h 1 = _; rw [offO_eq]; rfl
  have o2 : (rO t h).off (2 : Fin 3) = 256 * h.val := by show offO t h 2 = _; rw [offO_eq]; rfl
  by_cases et : t = t'
  · by_cases eh : h = h'
    · subst et eh
      rw [if_pos ⟨rfl, rfl⟩]
      refine (overlay_hit (rO t h) _ _ _ (ix3 (0 : Fin 1) a b) ?_).trans ?_
      · intro a
        show _ = offO t h a + 1 * _
        rw [offO_eq]
        fin_cases a <;> simp [ix3]
      · pointwise
    · have hne : h.val ≠ h'.val := fun e' => eh (Fin.ext e')
      rw [if_neg (fun e => eh e.2)]
      exact overlay_miss (rO t h) _ _ _ (2 : Fin 3) (256 * h.val) 256 o2 rfl rfl (by
        show 256 * h'.val + b.val < 256 * h.val ∨ 256 * h.val + 256 ≤ 256 * h'.val + b.val; omega)
  · have hne : t.val ≠ t'.val := fun e' => et (Fin.ext e')
    rw [if_neg (fun e => et e.1)]
    exact overlay_miss (rO t h) _ _ _ (1 : Fin 3) (64 * t.val) 64 o1 rfl rfl (by
      show 64 * t'.val + a.val < 64 * t.val ∨ 64 * t.val + 64 ≤ 64 * t'.val + a.val; omega)

/-! ## One trip, head by head -/

/-- The pair of a head, -/
def pOf (h : Fin 8) : Fin 4 := ⟨h.val % 4, by omega⟩
/-- and its lane half. -/
def hfOf (h : Fin 8) : Fin 2 := ⟨h.val / 4, by omega⟩
theorem headOf_of (h : Fin 8) : headOf (pOf h) (hfOf h) = h := by
  apply Fin.ext; show 4 * (h.val / 4) + h.val % 4 = h.val; omega
theorem headOf_inj : ∀ (p p' : Fin 4) (hf hf' : Fin 2), headOf p hf = headOf p' hf' ↔ p = p' ∧ hf = hf' := by decide

theorem slS_headFn (t : Fin k0_t1_loop.trips) (Y : Vec F S2x576x128 .f32) (p p' : Fin 4) (hf hf' : Fin 2) (W : Outs F) :
    slS (headOf p' hf') (headFn i X t Y p hf W).2
      = if p = p' ∧ hf = hf' then newS i X t p hf (gather (headOf p hf) Y) (slS (headOf p hf) W.2) else slS (headOf p' hf') W.2 := by
  unfold headFn; rw [slS_overlay]; simp only [headOf_inj]
theorem slO_headFn (t t' : Fin k0_t1_loop.trips) (Y : Vec F S2x576x128 .f32) (p p' : Fin 4) (hf hf' : Fin 2) (W : Outs F) :
    slO t' (headOf p' hf') (headFn i X t Y p hf W).1
      = if t = t' ∧ p = p' ∧ hf = hf' then newO i X t p hf (gather (headOf p hf) Y) (slS (headOf p hf) W.2) else slO t' (headOf p' hf') W.1 := by
  unfold headFn; rw [slO_overlay]; simp only [headOf_inj]

theorem slS_headsFn (t : Fin k0_t1_loop.trips) (Y : Vec F S2x576x128 .f32) (p : Fin 4) (hf : Fin 2) (W : Outs F) :
    slS (headOf p hf) (headsFn i X t Y W).2 = newS i X t p hf (gather (headOf p hf) Y) (slS (headOf p hf) W.2) := by
  unfold headsFn pairFn
  fin_cases p <;> fin_cases hf <;> simp [slS_headFn]
theorem slO_headsFn (t t' : Fin k0_t1_loop.trips) (Y : Vec F S2x576x128 .f32) (p : Fin 4) (hf : Fin 2) (W : Outs F) :
    slO t' (headOf p hf) (headsFn i X t Y W).1
      = if t = t' then newO i X t p hf (gather (headOf p hf) Y) (slS (headOf p hf) W.2) else slO t' (headOf p hf) W.1 := by
  unfold headsFn pairFn
  by_cases e : t = t'
  · subst e
    fin_cases p <;> fin_cases hf <;> simp [slO_headFn, slS_headFn]
  · fin_cases p <;> fin_cases hf <;> simp [slO_headFn, slS_headFn, e]

/-! ## All the trips -/

/-- A head's state after `n` trips. -/
def stSeq (h : Fin 8) : ℕ → FVec F S128x256 .f32
  | 0 => slS h X.h0
  | n + 1 => if hn : n < k0_t1_loop.trips then newS i X ⟨n, hn⟩ (pOf h) (hfOf h) (vblk ⟨n, hn⟩ h X.v) (stSeq h n) else stSeq h n

theorem stSeq_succ (h : Fin 8) (t : Fin k0_t1_loop.trips) :
    stSeq i X h (t.val + 1) = newS i X t (pOf h) (hfOf h) (vblk t h X.v) (stSeq i X h t.val) := by
  rw [stSeq, dif_pos t.isLt]

theorem slS_tripsFn (W : Outs F × Vec F S2x576x128 .f32) (h : Fin 8) (h0 : slS h W.1.2 = slS h X.h0) (n : ℕ) (hn : n ≤ k0_t1_loop.trips) :
    slS h (tripsFn i X W n).1.2 = stSeq i X h n := by
  induction n with
  | zero => exact h0
  | succ n ih =>
    have ht : n < k0_t1_loop.trips := hn
    rw [tripsFn_succ i X W ⟨n, ht⟩, stSeq_succ i X h ⟨n, ht⟩, ← ih (Nat.le_of_succ_le hn)]
    unfold tripFn
    have := slS_headsFn i X ⟨n, ht⟩ (stageXs ⟨n, ht⟩ X.v (List.finRange 64) (tripsFn i X W n).2) (pOf h) (hfOf h) (tripsFn i X W n).1
    rw [headOf_of, gather_staged] at this
    exact this

theorem slO_tripsFn (W : Outs F × Vec F S2x576x128 .f32) (h : Fin 8) (h0 : slS h W.1.2 = slS h X.h0) (t : Fin k0_t1_loop.trips) (n : ℕ)
    (hn : n ≤ k0_t1_loop.trips) (htn : t.val < n) :
    slO t h (tripsFn i X W n).1.1 = newO i X t (pOf h) (hfOf h) (vblk t h X.v) (stSeq i X h t.val) := by
  induction n with
  | zero => omega
  | succ n ih =>
    have ht : n < k0_t1_loop.trips := hn
    rw [tripsFn_succ i X W ⟨n, ht⟩]
    unfold tripFn
    have := slO_headsFn i X ⟨n, ht⟩ t (stageXs ⟨n, ht⟩ X.v (List.finRange 64) (tripsFn i X W n).2) (pOf h) (hfOf h) (tripsFn i X W n).1
    rw [headOf_of, gather_staged, slS_tripsFn i X W h h0 n ht.le] at this
    refine this.trans ?_
    by_cases e : n = t.val
    · have e' : (⟨n, ht⟩ : Fin k0_t1_loop.trips) = t := Fin.ext e
      rw [if_pos e', e', e]
    · rw [if_neg (fun e' => e (congrArg Fin.val e'))]
      exact ih ht.le (by omega)

/-- The state block the body leaves. -/
def Sout : Vec F S1x8x128x256 .f32 := fun y => stSeq i X (y 1) k0_t1_loop.trips (ix2 (y 2) (y 3))
/-- The output block the body leaves. -/
def Oout : Vec F S1x896x2048 .bf16 := fun y =>
  have h1 : (y 1).val < 896 := (y 1).isLt
  have h2 : (y 2).val < 2048 := (y 2).isLt
  let t : Fin k0_t1_loop.trips := ⟨(y 1).val / 64, by show _ < 14; omega⟩
  let h : Fin 8 := ⟨(y 2).val / 256, by omega⟩
  newO i X t (pOf h) (hfOf h) (vblk t h X.v) (stSeq i X h t.val) (ix2 ⟨(y 1).val % 64, by omega⟩ ⟨(y 2).val % 256, by omega⟩)

theorem slS_Sout (h : Fin 8) : slS h (Sout i X) = stSeq i X h k0_t1_loop.trips := by
  funext j
  obtain ⟨a, b, rfl⟩ := ex_ix2 j
  rw [slS_apply]; rfl
theorem slO_Oout (t : Fin k0_t1_loop.trips) (h : Fin 8) :
    slO t h (Oout i X) = newO i X t (pOf h) (hfOf h) (vblk t h X.v) (stSeq i X h t.val) := by
  funext j
  obtain ⟨a, b, rfl⟩ := ex_ix2 j
  have key : ∀ (t' : Fin k0_t1_loop.trips) (h' : Fin 8) (r : Fin 64) (k : Fin 256), t' = t → h' = h → r = a → k = b →
      newO i X t' (pOf h') (hfOf h') (vblk t' h' X.v) (stSeq i X h' t'.val) (ix2 r k)
        = newO i X t (pOf h) (hfOf h) (vblk t h X.v) (stSeq i X h t.val) (ix2 a b) := by
    rintro _ _ _ _ rfl rfl rfl rfl; rfl
  exact key _ _ _ _ (Fin.ext (by show (64 * t.val + a.val) / 64 = t.val; omega)) (Fin.ext (by show (256 * h.val + b.val) / 256 = h.val; omega))
    (Fin.ext (by show (64 * t.val + a.val) % 64 = a.val; omega)) (Fin.ext (by show (256 * h.val + b.val) % 256 = b.val; omega))

/-- Whatever the state block and the scratch held, the trips end at these two blocks. -/
theorem tripsFn_out (O : Vec F S1x896x2048 .bf16) (S : Vec F S1x8x128x256 .f32) (Y : Vec F S2x576x128 .f32) (hS : S = X.h0) :
    (tripsFn i X ((O, S), Y) k0_t1_loop.trips).1 = (Oout i X, Sout i X) := by
  subst hS
  refine Prod.ext ?_ ?_
  · exact slO_ext fun t h => (slO_tripsFn i X _ h rfl t _ le_rfl t.isLt).trans (slO_Oout i X t h).symm
  · exact slS_ext fun h => (slS_tripsFn i X _ h rfl _ le_rfl).trans (slS_Sout i X h).symm

end Cert.KernelIdeal.Hand

end
-- ==== Proof.Run.lean ====
/-
  The run of the kernel: the body's triple on the staging buffers, the pipeline's proof data, the launch and the frame.
-/
module

public import proofs.«01_k».proof.Proof.Triples
public import proofs.«01_k».proof.Proof.Indep
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, its outputs named -/

/-- Copying the initial state in leaves the state block equal to it. -/
theorem state0_eq (X : Ins F) (S : Vec F S1x8x128x256 .f32) : state0 X S = X.h0 := by
  funext y
  unfold state0
  refine (overlay_hit _ _ _ y y ?_).trans ?_
  · intro a; fin_cases a <;> simp
  · congr 1; funext a; apply Fin.ext; fin_cases a <;> simp

/-- The printed body: from its input buffers at `X` and the other buffers at anything, it leaves the inputs as they were and
    the output blocks at `Oout` and `Sout`. -/
theorem kda_runs (c : Dev nD) (i : grid0.Coords) (X : Ins F)
    (arg2 : Memref sig .tc .smem S14x2x16 .f32) (harg2 : arg2.IsWhole) (arg3 : Memref sig .tc .smem S14x2x16 .f32) (harg3 : arg3.IsWhole)
    (arg4 : Memref sig .tc .vmem S1x896x8x256 .bf16) (harg4 : arg4.IsWhole)
    (arg5 : Memref sig .tc .vmem S1x1x4352x128 .f32) (harg5 : arg5.IsWhole) (arg6 : Memref sig .tc .vmem S1x1x56x64x128 .f32) (harg6 : arg6.IsWhole)
    (arg7 : Memref sig .tc .vmem S1x1x14x8x128x128 .bf16) (harg7 : arg7.IsWhole)
    (arg8 : Memref sig .tc .vmem S1x1x56x128x128 .bf16) (harg8 : arg8.IsWhole) (arg9 : Memref sig .tc .vmem S1x1x14x128x8 .f32) (harg9 : arg9.IsWhole)
    (arg10 : Memref sig .tc .vmem S1x8x128x256 .f32) (harg10 : arg10.IsWhole)
    (arg11 : Memref sig .tc .vmem S1x896x2048 .bf16) (harg11 : arg11.IsWhole) (arg12 : Memref sig .tc .vmem S1x8x128x256 .f32) (harg12 : arg12.IsWhole)
    (arg13 : Memref sig .tc .vmem S2x576x128 .f32) (harg13 : arg13.IsWhole) (K : PUnit → sProp 𝕄) :
    iprop(bodyIns c X arg2 arg3 arg4 arg5 arg6 arg7 arg8 arg9 arg10 ∗ (∃ d, owns (c : Thread nD τ) arg11 fullShare d)
        ∗ (∃ d, owns (c : Thread nD τ) arg12 fullShare d) ∗ (∃ d, owns (c : Thread nD τ) arg13 fullShare d)
        ∗ (bodyIns c X arg2 arg3 arg4 arg5 arg6 arg7 arg8 arg9 arg10
            -∗ owns (c : Thread nD τ) arg11 fullShare (Oout i X) -∗ owns (c : Thread nD τ) arg12 fullShare (Sout i X)
            -∗ (∃ d, owns (c : Thread nD τ) arg13 fullShare d) -∗ K ⟨⟩))
      ⊢ wp frame (wpE (defs₀ (F := F)) Variants.none (c : Thread nD τ) none) Set.univ
          (cc0_kda i arg2 harg2 arg3 harg3 arg4 harg4 arg5 harg5 arg6 harg6 arg7 harg7 arg8 harg8 arg9 harg9 arg10 harg10 arg11 harg11 arg12 harg12 arg13 harg13) K := by
  rw [body_eq]
  iintro ⟨Hi, ⟨%O, H11⟩, ⟨%S, H12⟩, ⟨%Y, H13⟩, Hk⟩
  iapply (bodyProg_runs c i X arg2 arg3 arg4 arg5 arg6 arg7 arg8 arg9 arg10 arg11 harg11 arg12 arg13 O S Y K)
  rw [tripsFn_out i X O (state0 X S) Y (state0_eq X S)]
  isplitl [Hi]; · iexact Hi
  isplitl [H11]; · iexact H11
  isplitl [H12]; · iexact H12
  isplitl [H13]; · iexact H13
  iintro Hi H11 H12 H13
  iapply Hk $$ Hi H11 H12 [H13]
  iexists _; iexact H13

/-! ## The pipeline's proof data -/

/-- The contents of the input buffers at point `t`. -/
def insAt (c : Dev nD) (t : Fin cfg0.N) : Ins F where
  qs := iblk m c 0 t
  ks := iblk m c 1 t
  v := iblk m c 2 t
  z := iblk m c 3 t
  qk := iblk m c 4 t
  xc := iblk m c 5 t
  kd := iblk m c 6 t
  dec := iblk m c 7 t
  h0 := iblk m c 8 t

/-- The proof data of the pipeline on core `c`: each input's buffer stays at its block, each output's is left at the body's
    block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Oout (grid0.coords t) (insAt m c t)
    | ⟨10, _⟩ => Sout (grid0.coords t) (insAt m c t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = Oout (grid0.coords t) (insAt m c t) := by dsimp only [dats]
theorem after0_10 (c : Dev nD) (t : Fin cfg0.N) : (dats m 0 c).after 10 t = Sout (grid0.coords t) (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The invariant, opened: the scratch at some contents, and the generator register. -/
theorem PhiA_eq (c : Dev nD) :
    (Pipeline.ΦA (U := UR sig nD τ) (Val := Elt F) spec0 c : sProp 𝕄)
      = iprop((∃ d, owns (c : Thread nD τ) (Memref.whole cc0_scratch0) fullShare d) ∗ ∃ r, prngReg c r) := by
  unfold Pipeline.ΦA; rw [scopedRest0_eq]; simp only [owns_whole]

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6, after0_7, after0_8, after0_9, after0_10]
  iintro ⟨⟨H13, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  iapply (kda_runs c (grid0.coords t) (insAt m c t))
  isplitl [H2 H3 H4 H5 H6 H7 H8 H9 H10]
  · unfold bodyIns tripIns pairIns headIns insAt
    isplitr [H10]; swap; · iexact H10
    isplitl [H2 H3 H5 H6 H7 H8]
    · isplitl [H2 H3 H7]
      · isplitl [H2]; · iexact H2
        isplitl [H3]; · iexact H3
        iexact H7
      isplitl [H5]; · iexact H5
      isplitl [H6]; · iexact H6
      iexact H8
    isplitl [H4]; · iexact H4
    iexact H9
  isplitl [H11]; · iexists _; iexact H11
  isplitl [H12]; · iexists _; iexact H12
  isplitl [H13]; · iexact H13
  unfold bodyIns tripIns pairIns headIns
  iintro ⟨⟨⟨⟨H2, H3, H7⟩, H5, H6, H8⟩, H4, H9⟩, H10⟩ H11 H12 H13
  isplitl [H13 Hr]
  · isplitl [H13]; · iexact H13
    iexact Hr
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Spec.lean ====
/-
  The recurrence over the real numbers: what the kernel and the reference are both compared with. One head's chunk has
  the factors `Fac`; `nextS` is the state after a chunk, `outO` the chunk's output rows, `stR` the state after `n` chunks.
-/
module

public import Idealize.ShloMosaic.Lib.Pointwise

@[expose] public section

noncomputable section

namespace Cert.Spec

open Idealize.ShloMosaic

/-- The factors of one chunk of one head, as real matrices. -/
structure Fac where
  /-- The solve's factor. -/
  Z : Fin 64 → Fin 64 → ℝ
  /-- The masked query-key block. -/
  Q : Fin 64 → Fin 64 → ℝ
  /-- The decayed keys, transposed. -/
  K : Fin 128 → Fin 64 → ℝ
  /-- The keys (rows 0 to 63) over the queries (rows 64 to 127). -/
  X : Fin 128 → Fin 128 → ℝ
  /-- The chunk's decay. -/
  d : Fin 128 → ℝ
  /-- The keys' scale. -/
  ks : ℝ
  /-- The queries' scale. -/
  qs : ℝ
  /-- The values. -/
  v : Fin 64 → Fin 256 → ℝ

/-- The output's scale, as the programs hold it: the number `0x3DB504F3` stands for. -/
def kappa : ℝ := (Ideal.ofBits .f32 0x3DB504F3#32).toReal

/-- The constant is a real number. -/
theorem kappa_eq : Ideal.ofBits .f32 0x3DB504F3#32 = (kappa : EReal) := by
  unfold kappa
  symm
  apply EReal.coe_toReal <;> simp [Ideal.ofBits, Ideal.ieee, -EReal.coe_mul]

/-- The corrected values of a chunk. -/
def wR (f : Fac) (S : Fin 128 → Fin 256 → ℝ) (i : Fin 64) (w : Fin 256) : ℝ :=
  ∑ s : Fin 64, f.Z i s * (f.v s w - f.ks * ∑ c : Fin 128, f.X ⟨s.val, by omega⟩ c * S c w)

/-- The state after a chunk. -/
def nextS (f : Fac) (S : Fin 128 → Fin 256 → ℝ) (c : Fin 128) (w : Fin 256) : ℝ :=
  f.d c * S c w + ∑ s : Fin 64, f.K c s * wR f S s w

/-- The output rows of a chunk. -/
def outO (f : Fac) (S : Fin 128 → Fin 256 → ℝ) (i : Fin 64) (w : Fin 256) : ℝ :=
  f.qs * kappa * ((∑ c : Fin 128, f.X ⟨64 + i.val, by omega⟩ c * S c w) + ∑ s : Fin 64, f.Q i s * wR f S s w)

/-- The state after `n` chunks. -/
def stR (f : Fin 14 → Fac) (S : Fin 128 → Fin 256 → ℝ) : ℕ → Fin 128 → Fin 256 → ℝ
  | 0 => S
  | n + 1 => nextS (f (Fin.ofNat 14 n)) (stR f S n)

/-- The nine arguments. -/
structure Args where
  qs : FVec Ideal ⟨3, ![2, 14, 16]⟩ .f32
  ks : FVec Ideal ⟨3, ![2, 14, 16]⟩ .f32
  v : FVec Ideal ⟨4, ![2, 896, 16, 256]⟩ .bf16
  zt : FVec Ideal ⟨4, ![2, 2, 4352, 128]⟩ .f32
  qk : FVec Ideal ⟨5, ![2, 2, 56, 64, 128]⟩ .f32
  xc : FVec Ideal ⟨6, ![2, 2, 14, 8, 128, 128]⟩ .bf16
  kd : FVec Ideal ⟨5, ![2, 2, 56, 128, 128]⟩ .bf16
  dec : FVec Ideal ⟨5, ![2, 2, 14, 128, 8]⟩ .f32
  h0 : FVec Ideal ⟨4, ![2, 16, 128, 256]⟩ .f32

/-- An array of real numbers is the coercion of its real parts. -/
def Coes {s : Shape} {t : FTy} (x : FVec Ideal s t) : Prop := ∀ j, x j = ((EReal.toReal (x j) : ℝ) : EReal)

/-- All nine arguments hold real numbers. -/
structure Args.Real (A : Args) : Prop where
  qs : Coes A.qs
  ks : Coes A.ks
  v : Coes A.v
  zt : Coes A.zt
  qk : Coes A.qk
  xc : Coes A.xc
  kd : Coes A.kd
  dec : Coes A.dec
  h0 : Coes A.h0

/-- Where the packed factors hold head `8 g + 4 f + p` of chunk `t`: pair `4 t + p`, lane half `f`. -/
def fac (A : Args) (b : Fin 2) (g : Fin 2) (h : Fin 8) (t : Fin 14) : Fac where
  Z i s := EReal.toReal (A.zt (ix4 b g ⟨68 * i.val + (4 * t.val + h.val % 4), by omega⟩ ⟨64 * (h.val / 4) + s.val, by omega⟩))
  Q i s := EReal.toReal (A.qk (ix5 b g ⟨4 * t.val + h.val % 4, by omega⟩ i ⟨64 * (h.val / 4) + s.val, by omega⟩))
  K c s := EReal.toReal (A.kd (ix5 b g ⟨4 * t.val + h.val % 4, by omega⟩ c ⟨64 * (h.val / 4) + s.val, by omega⟩))
  X i c := EReal.toReal (A.xc (ix6 b g t h i c))
  d c := EReal.toReal (A.dec (ix5 b g t c h))
  ks := EReal.toReal (A.ks (ix3 b t ⟨8 * g.val + h.val, by omega⟩))
  qs := EReal.toReal (A.qs (ix3 b t ⟨8 * g.val + h.val, by omega⟩))
  v s w := EReal.toReal (A.v (ix4 b ⟨64 * t.val + s.val, by omega⟩ ⟨8 * g.val + h.val, by omega⟩ w))

/-- The initial state of a head. -/
def st0 (A : Args) (b : Fin 2) (g : Fin 2) (h : Fin 8) (c : Fin 128) (w : Fin 256) : ℝ :=
  EReal.toReal (A.h0 (ix4 b ⟨8 * g.val + h.val, by omega⟩ c w))

/-- The state of a head after `n` chunks. -/
def state (A : Args) (b : Fin 2) (g : Fin 2) (h : Fin 8) (n : ℕ) : Fin 128 → Fin 256 → ℝ :=
  stR (fac A b g h) (st0 A b g h) n

/-- The output of a head at chunk `t`. -/
def outR (A : Args) (b : Fin 2) (g : Fin 2) (h : Fin 8) (t : Fin 14) : Fin 64 → Fin 256 → ℝ :=
  outO (fac A b g h t) (state A b g h t.val)

theorem state_succ (A : Args) (b : Fin 2) (g : Fin 2) (h : Fin 8) (t : Fin 14) :
    state A b g h (t.val + 1) = nextS (fac A b g h t) (state A b g h t.val) := by
  have e : Fin.ofNat 14 t.val = t := Fin.ext (Nat.mod_eq_of_lt t.isLt)
  show nextS (fac A b g h (Fin.ofNat 14 t.val)) _ = _
  rw [e]; rfl

/-- The first result: row `64 t + i`, lane `2048 g + 256 h + w` holds entry `(i, w)` of the output of head `8 g + h` at chunk `t`. -/
def oArr (A : Args) : FVec Ideal ⟨3, ![2, 896, 4096]⟩ .bf16 := fun j =>
  have h1 : (j 1).val < 896 := (j 1).isLt
  have h2 : (j 2).val < 4096 := (j 2).isLt
  ((outR A (j 0) ⟨(j 2).val / 2048, by omega⟩ ⟨(j 2).val % 2048 / 256, by omega⟩ ⟨(j 1).val / 64, by omega⟩ ⟨(j 1).val % 64, by omega⟩
    ⟨(j 2).val % 256, by omega⟩ : ℝ) : EReal)

/-- The second result: head `8 g + h` holds its state after the last chunk. -/
def sArr (A : Args) : FVec Ideal ⟨4, ![2, 16, 128, 256]⟩ .f32 := fun j =>
  have h1 : (j 1).val < 16 := (j 1).isLt
  ((state A (j 0) ⟨(j 1).val / 8, by omega⟩ ⟨(j 1).val % 8, by omega⟩ 14 (j 2) (j 3) : ℝ) : EReal)

theorem oArr_at (A : Args) (b : Fin 2) (g : Fin 2) (h : Fin 8) (t : Fin 14) (i : Fin 64) (w : Fin 256) (r : Fin 896) (q : Fin 4096)
    (hr : r.val = 64 * t.val + i.val) (hq : q.val = 2048 * g.val + (256 * h.val + w.val)) :
    oArr A (ix3 b r q) = (outR A b g h t i w : EReal) := by
  have key : ∀ (g' : Fin 2) (h' : Fin 8) (t' : Fin 14) (i' : Fin 64) (w' : Fin 256), g' = g → h' = h → t' = t → i' = i → w' = w →
      ((outR A b g' h' t' i' w' : ℝ) : EReal) = (outR A b g h t i w : EReal) := by
    rintro _ _ _ _ _ rfl rfl rfl rfl rfl; rfl
  have r1 := r.isLt; have q1 := q.isLt
  exact key ⟨q.val / 2048, by omega⟩ ⟨q.val % 2048 / 256, by omega⟩ ⟨r.val / 64, by omega⟩ ⟨r.val % 64, by omega⟩ ⟨q.val % 256, by omega⟩
    (Fin.ext (by show q.val / 2048 = g.val; omega)) (Fin.ext (by show q.val % 2048 / 256 = h.val; omega)) (Fin.ext (by show r.val / 64 = t.val; omega))
    (Fin.ext (by show r.val % 64 = i.val; omega)) (Fin.ext (by show q.val % 256 = w.val; omega))

theorem sArr_at (A : Args) (b : Fin 2) (g : Fin 2) (h : Fin 8) (r : Fin 16) (hr : r.val = 8 * g.val + h.val) (c : Fin 128) (w : Fin 256) :
    sArr A (ix4 b r c w) = (state A b g h 14 c w : EReal) := by
  have key : ∀ (g' : Fin 2) (h' : Fin 8), g' = g → h' = h → ((state A b g' h' 14 c w : ℝ) : EReal) = (state A b g h 14 c w : EReal) := by
    rintro _ _ rfl rfl; rfl
  have r1 := r.isLt
  exact key ⟨r.val / 8, by omega⟩ ⟨r.val % 8, by omega⟩ (Fin.ext (by show r.val / 8 = g.val; omega)) (Fin.ext (by show r.val % 8 = h.val; omega))

/-- A sum of real numbers is a real number. -/
theorem coe_sum {ι : Type} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

/-- A sum of products of real numbers. -/
theorem coe_dot {ι : Type} [Fintype ι] (f g : ι → EReal) (f' g' : ι → ℝ) (hf : ∀ i, f i = (f' i : EReal)) (hg : ∀ i, g i = (g' i : EReal)) :
    ∑ i, f i * g i = ((∑ i, f' i * g' i : ℝ) : EReal) := by
  rw [← coe_sum]
  refine Finset.sum_congr rfl fun i _ => ?_
  rw [hf, hg, EReal.coe_mul]

end Cert.Spec

end
-- ==== Proof.HeadVal.lean ====
/-
  One head's step over the extended reals, when every entry it reads is a real number: the three-term split keeps only
  its first summand, so the stacked products are plain products.
-/
module

public import proofs.«01_k».proof.Proof.Step
public import proofs.«01_k».proof.Proof.Spec
public import Idealize.ShloMosaic.Lib.Pointwise

@[expose] public section

noncomputable section

namespace Cert.KernelIdeal.Hand

open Cert.KernelIdeal Cert.KernelIdeal.Gen
open Idealize.ShloMosaic

/-- Every entry is a real number. -/
def IsReal {s : Shape} {t : FTy} (x : FVec Ideal s t) : Prop := ∀ j, ∃ r : ℝ, x j = (r : EReal)

theorem sub_self_real (r : ℝ) : (r : EReal) - (r : EReal) = 0 := by
  rw [← EReal.coe_sub, sub_self, EReal.coe_zero]

/-- The first summand is the array itself. -/
theorem split0_eq {s : Shape} (x : FVec Ideal s .f32) (j : s.Idx) : split0 x j = x j := rfl
/-- The second is zero. -/
theorem split1_eq {s : Shape} (x : FVec Ideal s .f32) (hx : IsReal x) (j : s.Idx) : split1 x j = (0 : EReal) := by
  obtain ⟨r, hr⟩ := hx j
  show (x j : EReal) - x j = 0
  rw [hr, sub_self_real]
/-- The third is zero. -/
theorem split2_eq {s : Shape} (x : FVec Ideal s .f32) (hx : IsReal x) (j : s.Idx) : split2 x j = (0 : EReal) := by
  obtain ⟨r, hr⟩ := hx j
  show ((x j : EReal) - x j) - (x j - x j) = 0
  rw [hr, sub_self_real, sub_zero]

/-- A sum over 256 in four runs of 64. -/
theorem sum256 {M : Type} [AddCommMonoid M] (f : Fin 256 → M) :
    ∑ k, f k = (∑ k : Fin 64, f ⟨k.val, by omega⟩) + (∑ k : Fin 64, f ⟨64 + k.val, by omega⟩)
      + (∑ k : Fin 64, f ⟨128 + k.val, by omega⟩) + ∑ k : Fin 64, f ⟨192 + k.val, by omega⟩ := by
  rw [← Fin.sum_congr' f (show 192 + 64 = 256 by norm_num), Fin.sum_univ_add,
    ← Fin.sum_congr' _ (show 128 + 64 = 192 by norm_num), Fin.sum_univ_add,
    ← Fin.sum_congr' _ (show 64 + 64 = 128 by norm_num), Fin.sum_univ_add]
  rfl

/-- A sum over 384 in three runs of 128. -/
theorem sum384 {M : Type} [AddCommMonoid M] (f : Fin 384 → M) :
    ∑ k, f k = (∑ k : Fin 128, f ⟨k.val, by omega⟩) + (∑ k : Fin 128, f ⟨128 + k.val, by omega⟩)
      + ∑ k : Fin 128, f ⟨256 + k.val, by omega⟩ := by
  rw [← Fin.sum_congr' f (show 256 + 128 = 384 by norm_num), Fin.sum_univ_add,
    ← Fin.sum_congr' _ (show 128 + 128 = 256 by norm_num), Fin.sum_univ_add]
  rfl

/-- The stacked product with the split state is the plain product. -/
theorem xdotS_apply (x : FVec Ideal S128x128 .bf16) (s : FVec Ideal S128x256 .f32) (hs : IsReal s) (i : Fin 128) (w : Fin 256) :
    xdotS x s (ix2 i w) = (∑ c : Fin 128, x (ix2 i c) * s (ix2 c w) : EReal) := by
  pointwise [xdotS, dot_S128x384_S384x256_S128x256_1_0_0_1_n_n]
  rw [sum384]
  refine (congrArg₂ (· + ·) (congrArg₂ (· + ·) (Finset.sum_congr rfl fun k _ => ?_) (Finset.sum_eq_zero fun k _ => ?_))
    (Finset.sum_eq_zero fun k _ => ?_)).trans (by rw [add_zero, add_zero])
  · rw [dif_pos k.isLt, dif_pos k.isLt]; rfl
  · rw [dif_neg (show ¬ 128 + k.val < 128 by omega), dif_neg (show ¬ 128 + k.val < 128 by omega),
      dif_pos (show 128 + k.val - 128 < 128 by omega), dif_pos (show 128 + k.val - 128 < 128 by omega), split1_eq s hs, mul_zero]
  · rw [dif_neg (show ¬ 256 + k.val < 128 by omega), dif_neg (show ¬ 256 + k.val < 128 by omega),
      dif_neg (show ¬ 256 + k.val - 128 < 128 by omega), dif_neg (show ¬ 256 + k.val - 128 < 128 by omega), split2_eq s hs, mul_zero]

theorem lanes_apply (hf : Fin 2) {t : FTy} (x : FVec Ideal S64x128 t) (i s : Fin 64) :
    lanes hf x (ix2 i s) = x (ix2 i ⟨64 * hf.val + s.val, by omega⟩) :=
  match hf with
  | 0 => by pointwise [lanes]
  | 1 => by pointwise [lanes]

theorem lanesD_apply (hf : Fin 2) {t : FTy} (x : FVec Ideal S128x128 t) (i : Fin 128) (s : Fin 64) :
    lanesD hf x (ix2 i s) = x (ix2 i ⟨64 * hf.val + s.val, by omega⟩) :=
  match hf with
  | 0 => by pointwise [lanesD]
  | 1 => by pointwise [lanesD]

theorem decCol_apply (h : Fin 8) (x : FVec Ideal S128x8 .f32) (c : Fin 128) : decCol h x (ix2 c 0) = x (ix2 c h) :=
  match h with
  | 0 => by pointwise [decCol]
  | 1 => by pointwise [decCol]
  | 2 => by pointwise [decCol]
  | 3 => by pointwise [decCol]
  | 4 => by pointwise [decCol]
  | 5 => by pointwise [decCol]
  | 6 => by pointwise [decCol]
  | 7 => by pointwise [decCol]

theorem zero64_eq (j : S64x64.Idx) : zero64 (F := Ideal) j = (0 : EReal) := by pointwise [zero64]

/-- The four runs of the right operand. -/
theorem rhs4_apply (r : FVec Ideal S64x256 .f32) (hr : IsReal r) (s : Fin 64) (w : Fin 256) :
    rhs4 r (ix2 ⟨s.val, by omega⟩ w) = r (ix2 s w) ∧ rhs4 r (ix2 ⟨64 + s.val, by omega⟩ w) = (0 : EReal)
      ∧ rhs4 r (ix2 ⟨128 + s.val, by omega⟩ w) = (0 : EReal) ∧ rhs4 r (ix2 ⟨192 + s.val, by omega⟩ w) = r (ix2 s w) := by
  refine ⟨?_, ?_, ?_, ?_⟩
  · pointwise [rhs4, dif_pos s.isLt]; rfl
  · pointwise (disch := omega) [rhs4, dif_pos, dif_neg]
    exact split1_eq r hr _
  · pointwise (disch := omega) [rhs4, dif_pos, dif_neg]
    exact split2_eq r hr _
  · pointwise (disch := omega) [rhs4, dif_pos, dif_neg]
    exact congrArg (fun a => r (ix2 a w)) (Fin.ext (show 192 + s.val - 64 - 64 - 64 = s.val by omega))

/-- A row of four blocks against the four runs: only the first run counts when the last block is zero. -/
theorem row_sum (l : Fin 256 → EReal) (r : FVec Ideal S64x256 .f32) (hr : IsReal r) (w : Fin 256)
    (h3 : ∀ s : Fin 64, l ⟨192 + s.val, by omega⟩ = 0) :
    (∑ k : Fin 256, l k * rhs4 r (ix2 k w) : EReal) = ∑ s : Fin 64, l ⟨s.val, by omega⟩ * r (ix2 s w) := by
  rw [sum256]
  refine (congrArg₂ (· + ·) (congrArg₂ (· + ·) (congrArg₂ (· + ·) (Finset.sum_congr rfl fun k _ => ?_) (Finset.sum_eq_zero fun k _ => ?_))
    (Finset.sum_eq_zero fun k _ => ?_)) (Finset.sum_eq_zero fun k _ => ?_)).trans (by rw [add_zero, add_zero, add_zero])
  · rw [(rhs4_apply r hr k w).1]
  · rw [(rhs4_apply r hr k w).2.1, mul_zero]
  · rw [(rhs4_apply r hr k w).2.2.1, mul_zero]
  · rw [h3, zero_mul]

/-- The solve's product is the plain one. -/
theorem wOf_apply (a b c : FVec Ideal S64x64 .bf16) (hb : ∀ j, b j = (0 : EReal)) (hc : ∀ j, c j = (0 : EReal))
    (r : FVec Ideal S64x256 .f32) (hr : IsReal r) (i : Fin 64) (w : Fin 256) :
    wOf a b c r (ix2 i w) = (∑ s : Fin 64, a (ix2 i s) * r (ix2 s w) : EReal) := by
  pointwise [wOf, dot_S128x256_S256x256_S128x256_1_0_0_1_n_n]
  rw [row_sum _ r hr w, row_sum _ r hr w]
  · refine (congrArg₂ (· + ·) (Finset.sum_congr rfl fun k _ => ?_) (Finset.sum_eq_zero fun k _ => ?_)).trans (add_zero _)
    · pointwise (disch := omega) [lhsZ, dif_pos, dif_neg]
    · pointwise (disch := omega) [lhsZ, dif_pos, dif_neg, hc, zero_mul]
  · intro k
    pointwise (disch := omega) [lhsZ, dif_pos, dif_neg, zero64_eq]
  · intro k
    pointwise (disch := omega) [lhsZ, dif_pos, dif_neg, hb]

/-- The rows of the last product: the decayed keys' rows, -/
theorem eOf_top (kd : FVec Ideal S128x64 .bf16) (a b c : FVec Ideal S64x64 .bf16) (r : FVec Ideal S64x256 .f32) (hr : IsReal r)
    (i : Fin 128) (w : Fin 256) :
    eOf kd a b c r (ix2 ⟨i.val, by omega⟩ w) = (∑ s : Fin 64, kd (ix2 i s) * r (ix2 s w) : EReal) := by
  pointwise [eOf, dot_S256x256_S256x256_S256x256_1_0_0_1_n_n]
  rw [row_sum _ r hr w]
  · refine Finset.sum_congr rfl fun k _ => ?_
    pointwise (disch := omega) [lhsE, dif_pos, dif_neg]
  · intro k
    pointwise (disch := omega) [lhsE, dif_pos, dif_neg]

/-- the query-key rows, -/
theorem eOf_mid (kd : FVec Ideal S128x64 .bf16) (a b c : FVec Ideal S64x64 .bf16) (hb : ∀ j, b j = (0 : EReal))
    (r : FVec Ideal S64x256 .f32) (hr : IsReal r) (i : Fin 64) (w : Fin 256) :
    eOf kd a b c r (ix2 ⟨128 + i.val, by omega⟩ w) = (∑ s : Fin 64, a (ix2 i s) * r (ix2 s w) : EReal) := by
  pointwise [eOf, dot_S256x256_S256x256_S256x256_1_0_0_1_n_n]
  rw [row_sum _ r hr w]
  · refine Finset.sum_congr rfl fun k _ => ?_
    pointwise (disch := omega) [lhsE, dif_pos, dif_neg]
  · intro k
    pointwise (disch := omega) [lhsE, dif_pos, dif_neg, hb]

/-- and the rows of the lower summands, which are zero. -/
theorem eOf_low (kd : FVec Ideal S128x64 .bf16) (a b c : FVec Ideal S64x64 .bf16) (hc : ∀ j, c j = (0 : EReal))
    (r : FVec Ideal S64x256 .f32) (hr : IsReal r) (i : Fin 64) (w : Fin 256) :
    eOf kd a b c r (ix2 ⟨192 + i.val, by omega⟩ w) = (0 : EReal) := by
  pointwise [eOf, dot_S256x256_S256x256_S256x256_1_0_0_1_n_n]
  rw [row_sum _ r hr w]
  · refine Finset.sum_eq_zero fun k _ => ?_
    pointwise (disch := omega) [lhsE, dif_pos, dif_neg, hc, zero_mul]
  · intro k
    pointwise (disch := omega) [lhsE, dif_pos, dif_neg, zero64_eq]

/-! ## The step -/

open Cert.Spec

section

variable (f : Fac) (S : Fin 128 → Fin 256 → ℝ) (p : Fin 4) (hf : Fin 2)
  (z q : FVec Ideal S64x128 .f32) (kd x : FVec Ideal S128x128 .bf16) (d : FVec Ideal S128x8 .f32) (ks qs : Ideal .f32)
  (v : FVec Ideal S64x256 .f32) (s : FVec Ideal S128x256 .f32)

/-- What a head reads are the real factors `f` and the real state `S`. -/
structure Reads : Prop where
  zr : IsReal z
  qr : IsReal q
  z : ∀ i s : Fin 64, z (ix2 i ⟨64 * hf.val + s.val, by omega⟩) = (f.Z i s : EReal)
  q : ∀ i s : Fin 64, q (ix2 i ⟨64 * hf.val + s.val, by omega⟩) = (f.Q i s : EReal)
  kd : ∀ (c : Fin 128) (s : Fin 64), kd (ix2 c ⟨64 * hf.val + s.val, by omega⟩) = (f.K c s : EReal)
  x : ∀ i c : Fin 128, x (ix2 i c) = (f.X i c : EReal)
  d : ∀ c : Fin 128, d (ix2 c (headOf p hf)) = (f.d c : EReal)
  ks : ks = (f.ks : EReal)
  qs : qs = (f.qs : EReal)
  v : ∀ (i : Fin 64) (w : Fin 256), v (ix2 i w) = (f.v i w : EReal)
  s : ∀ (c : Fin 128) (w : Fin 256), s (ix2 c w) = (S c w : EReal)

variable {f S p hf z q kd x d ks qs v s} (H : Reads f S p hf z q kd x d ks qs v s)
include H

theorem xdotS_coe (i : Fin 128) (w : Fin 256) : xdotS x s (ix2 i w) = ((∑ c : Fin 128, f.X i c * S c w : ℝ) : EReal) := by
  rw [xdotS_apply x s (fun j => by obtain ⟨a, b, rfl⟩ : ∃ a b, j = ix2 a b := ⟨_, _, eq_ix2 j⟩; exact ⟨_, H.s a b⟩)]
  exact coe_dot _ _ _ _ (H.x i) (fun c => H.s c w)

theorem resid_coe (i : Fin 64) (w : Fin 256) : resid v ks (xdotS x s) (ix2 i w)
    = ((f.v i w - f.ks * ∑ c : Fin 128, f.X ⟨i.val, by omega⟩ c * S c w : ℝ) : EReal) := by
  pointwise [resid]
  rw [xdotS_coe H, H.v, H.ks, EReal.coe_sub, EReal.coe_mul]

theorem wOf_coe (i : Fin 64) (w : Fin 256) :
    wOf (lanes hf (split0 z)) (lanes hf (split1 z)) (lanes hf (split2 z)) (resid v ks (xdotS x s)) (ix2 i w) = (wR f S i w : EReal) := by
  rw [wOf_apply _ _ _ _ _ _ (fun j => by obtain ⟨a, b, rfl⟩ : ∃ a b, j = ix2 a b := ⟨_, _, eq_ix2 j⟩; exact ⟨_, resid_coe H a b⟩)]
  · exact coe_dot _ _ _ _ (fun s => (lanes_apply hf _ i s).trans (H.z i s)) (fun s => resid_coe H s w)
  · intro j; obtain ⟨a, b, rfl⟩ : ∃ a b, j = ix2 a b := ⟨_, _, eq_ix2 j⟩
    rw [lanes_apply]; exact split1_eq z H.zr _
  · intro j; obtain ⟨a, b, rfl⟩ : ∃ a b, j = ix2 a b := ⟨_, _, eq_ix2 j⟩
    rw [lanes_apply]; exact split2_eq z H.zr _

/-- One head's new state. -/
theorem headS_coe (c : Fin 128) (w : Fin 256) : headS p hf z q kd x d ks v s (ix2 c w) = (nextS f S c w : EReal) := by
  have e : headE hf z q kd x ks v s (ix2 ⟨c.val, by omega⟩ w) = ((∑ s : Fin 64, f.K c s * wR f S s w : ℝ) : EReal) := by
    unfold headE
    rw [eOf_top _ _ _ _ _ (fun j => by obtain ⟨a, b, rfl⟩ : ∃ a b, j = ix2 a b := ⟨_, _, eq_ix2 j⟩; exact ⟨_, wOf_coe H a b⟩)]
    exact coe_dot _ _ _ _ (fun s => (lanesD_apply hf _ c s).trans (H.kd c s)) (fun s => wOf_coe H s w)
  pointwise [headS]
  rw [decCol_apply, H.d, H.s, e, ← EReal.coe_mul, ← EReal.coe_add]
  rfl

/-- One head's output rows. -/
theorem headO_coe (i : Fin 64) (w : Fin 256) : headO hf z q kd x ks qs v s (ix2 i w) = (outO f S i w : EReal) := by
  have hw : IsReal (wOf (lanes hf (split0 z)) (lanes hf (split1 z)) (lanes hf (split2 z)) (resid v ks (xdotS x s))) :=
    fun j => by obtain ⟨a, b, rfl⟩ : ∃ a b, j = ix2 a b := ⟨_, _, eq_ix2 j⟩; exact ⟨_, wOf_coe H a b⟩
  have e : headE hf z q kd x ks v s (ix2 ⟨128 + i.val, by omega⟩ w) = ((∑ s : Fin 64, f.Q i s * wR f S s w : ℝ) : EReal) := by
    unfold headE
    rw [eOf_mid _ _ _ _ ?_ _ hw]
    · exact coe_dot _ _ _ _ (fun s => (lanes_apply hf _ i s).trans (H.q i s)) (fun s => wOf_coe H s w)
    · intro j; obtain ⟨a, b, rfl⟩ : ∃ a b, j = ix2 a b := ⟨_, _, eq_ix2 j⟩
      rw [lanes_apply]; exact split1_eq q H.qr _
  have e' : headE hf z q kd x ks v s (ix2 ⟨192 + i.val, by omega⟩ w) = (0 : EReal) := by
    unfold headE
    rw [eOf_low _ _ _ _ ?_ _ hw]
    intro j; obtain ⟨a, b, rfl⟩ : ∃ a b, j = ix2 a b := ⟨_, _, eq_ix2 j⟩
    rw [lanes_apply]; exact split2_eq q H.qr _
  pointwise [headO]
  rw [xdotS_coe H, e, e', add_zero, H.qs, kappa_eq, ← EReal.coe_mul, ← EReal.coe_add, ← EReal.coe_mul]
  rfl

end

end Cert.KernelIdeal.Hand

end
-- ==== Proof.KerBlk.lean ====
/-
  The input blocks of a grid point at an index, as entries of the argument arrays, and the pieces of a head's step read
  off them.
-/
module

public import proofs.«01_k».proof.Proof.Run
public import proofs.«01_k».proof.Proof.HeadVal
public import Idealize.ShloMosaic.Lib.Pipeline.ValueKit
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ)

/-! ## The grid's coordinates and the windows' block indices -/

/-- The batch entry of a grid point. -/
def cb (t : Fin cfg0.N) : Fin 2 := ⟨(grid0.coords t 0).val, (grid0.coords t 0).isLt⟩
/-- The head group of a grid point. -/
def cg (t : Fin cfg0.N) : Fin 2 := ⟨(grid0.coords t 1).val, (grid0.coords t 1).isLt⟩

theorem ie0 : ∀ t : Fin cfg0.N, win0_0.index t = ![0, 0, 0] := (by decide +kernel : ∀ t : Fin grid0.N, _)
theorem ie1 : ∀ t : Fin cfg0.N, win0_1.index t = ![0, 0, 0] := (by decide +kernel : ∀ t : Fin grid0.N, _)
theorem ie2 : ∀ t : Fin cfg0.N, win0_2.index t = ![(cb t).val, 0, (cg t).val, 0] := (by decide +kernel : ∀ t : Fin grid0.N, _)
theorem ie3 : ∀ t : Fin cfg0.N, win0_3.index t = ![(cb t).val, (cg t).val, 0, 0] := (by decide +kernel : ∀ t : Fin grid0.N, _)
theorem ie4 : ∀ t : Fin cfg0.N, win0_4.index t = ![(cb t).val, (cg t).val, 0, 0, 0] := (by decide +kernel : ∀ t : Fin grid0.N, _)
theorem ie5 : ∀ t : Fin cfg0.N, win0_5.index t = ![(cb t).val, (cg t).val, 0, 0, 0, 0] := (by decide +kernel : ∀ t : Fin grid0.N, _)
theorem ie6 : ∀ t : Fin cfg0.N, win0_6.index t = ![(cb t).val, (cg t).val, 0, 0, 0] := (by decide +kernel : ∀ t : Fin grid0.N, _)
theorem ie7 : ∀ t : Fin cfg0.N, win0_7.index t = ![(cb t).val, (cg t).val, 0, 0, 0] := (by decide +kernel : ∀ t : Fin grid0.N, _)
theorem ie8 : ∀ t : Fin cfg0.N, win0_8.index t = ![(cb t).val, (cg t).val, 0, 0] := (by decide +kernel : ∀ t : Fin grid0.N, _)
theorem ie9 : ∀ t : Fin cfg0.N, win0_9.index t = ![(cb t).val, 0, (cg t).val] := (by decide +kernel : ∀ t : Fin grid0.N, _)
theorem ie10 : ∀ t : Fin cfg0.N, win0_10.index t = ![(cb t).val, (cg t).val, 0, 0] := (by decide +kernel : ∀ t : Fin grid0.N, _)

/-! ## The blocks -/

variable (c : Dev nD) (t : Fin cfg0.N)

/-- An argument array. -/
abbrev arg (b : Ref sig .tc) : Buf (Elt F) ((c.tc : Thread nD τ).loc b) := m ((c.tc : Thread nD τ).loc b)

theorem V_main_v0 : V m c main_v0 = transpose S14x2x16 [1, 0, 2] (arg m c main_arg0) transposes_S2x14x16_S14x2x16_1_0_2 := by
  show StableHlo.after hostOps0 _ _ = _
  simp only [hostOps0]; after_reads_simp
theorem V_main_v1 : V m c main_v1 = transpose S14x2x16 [1, 0, 2] (arg m c main_arg1) transposes_S2x14x16_S14x2x16_1_0_2 := by
  show StableHlo.after hostOps0 _ _ = _
  simp only [hostOps0]; after_reads_simp

theorem qs_apply (j : Fin 14) (b : Fin 2) (h : Fin 16) : (insAt m c t).qs (ix3 j b h) = arg m c main_arg0 (ix3 b j h) := by
  show iblk m c 0 t (ix3 j b h) = _
  have e : (win0_0.blk t).view.emb (ix3 j b h) = ix3 j b h := by blk_ext [ie0]
  blk_simp [iblk]
  rw [V_main_v0, e]
  pointwise
theorem ks_apply (j : Fin 14) (b : Fin 2) (h : Fin 16) : (insAt m c t).ks (ix3 j b h) = arg m c main_arg1 (ix3 b j h) := by
  show iblk m c 1 t (ix3 j b h) = _
  have e : (win0_1.blk t).view.emb (ix3 j b h) = ix3 j b h := by blk_ext [ie1]
  blk_simp [iblk]
  rw [V_main_v1, e]
  pointwise
theorem v_apply (r : Fin 896) (h : Fin 8) (w : Fin 256) :
    (insAt m c t).v (ix4 0 r h w) = arg m c main_arg2 (ix4 (cb t) r ⟨8 * (cg t).val + h.val, by omega⟩ w) := by
  show iblk m c 2 t (ix4 0 r h w) = _
  blk_simp [iblk]
  rw [V_main_arg2]
  exact congrArg _ (by blk_ext [ie2])
theorem z_apply (r : Fin 4352) (w : Fin 128) : (insAt m c t).z (ix4 0 0 r w) = arg m c main_arg3 (ix4 (cb t) (cg t) r w) := by
  show iblk m c 3 t (ix4 0 0 r w) = _
  blk_simp [iblk]
  rw [V_main_arg3]
  exact congrArg _ (by blk_ext [ie3])
theorem qk_apply (p : Fin 56) (r : Fin 64) (w : Fin 128) :
    (insAt m c t).qk (ix5 0 0 p r w) = arg m c main_arg4 (ix5 (cb t) (cg t) p r w) := by
  show iblk m c 4 t (ix5 0 0 p r w) = _
  blk_simp [iblk]
  rw [V_main_arg4]
  exact congrArg _ (by blk_ext [ie4])
theorem xc_apply (j : Fin 14) (h : Fin 8) (r w : Fin 128) :
    (insAt m c t).xc (ix6 0 0 j h r w) = arg m c main_arg5 (ix6 (cb t) (cg t) j h r w) := by
  show iblk m c 5 t (ix6 0 0 j h r w) = _
  blk_simp [iblk]
  rw [V_main_arg5]
  exact congrArg _ (by blk_ext [ie5])
theorem kd_apply (p : Fin 56) (r w : Fin 128) :
    (insAt m c t).kd (ix5 0 0 p r w) = arg m c main_arg6 (ix5 (cb t) (cg t) p r w) := by
  show iblk m c 6 t (ix5 0 0 p r w) = _
  blk_simp [iblk]
  rw [V_main_arg6]
  exact congrArg _ (by blk_ext [ie6])
theorem dec_apply (j : Fin 14) (r : Fin 128) (h : Fin 8) :
    (insAt m c t).dec (ix5 0 0 j r h) = arg m c main_arg7 (ix5 (cb t) (cg t) j r h) := by
  show iblk m c 7 t (ix5 0 0 j r h) = _
  blk_simp [iblk]
  rw [V_main_arg7]
  exact congrArg _ (by blk_ext [ie7])
theorem h0_apply (h : Fin 8) (r : Fin 128) (w : Fin 256) :
    (insAt m c t).h0 (ix4 0 h r w) = arg m c main_arg8 (ix4 (cb t) ⟨8 * (cg t).val + h.val, by omega⟩ r w) := by
  show iblk m c 8 t (ix4 0 h r w) = _
  blk_simp [iblk]
  rw [V_main_arg8]
  exact congrArg _ (by blk_ext [ie8])

/-! ## What a head's step reads -/

variable (X : Ins F) (i : grid0.Coords) (k : Fin k0_t1_loop.trips)

theorem zIn_apply (p : Fin 4) (a : Fin 64) (s : Fin 128) :
    zIn X k p (ix2 a s) = X.z (ix4 0 0 ⟨68 * a.val + (4 * k.val + p.val), by have : k.val < 14 := k.isLt; omega⟩ s) := by
  unfold zIn; pointwise
  refine congrArg X.z ?_
  funext d; fin_cases d <;> apply Fin.ext <;> simp [ix4, k0_off3_eq] <;> omega
theorem qIn_apply (p : Fin 4) (a : Fin 64) (s : Fin 128) :
    qIn X k p (ix2 a s) = X.qk (ix5 0 0 ⟨4 * k.val + p.val, by have : k.val < 14 := k.isLt; omega⟩ a s) := by
  unfold qIn; pointwise
  refine congrArg X.qk ?_
  funext d; fin_cases d <;> apply Fin.ext <;> simp [ix5, k0_off4_eq] <;> omega
theorem kIn_apply (p : Fin 4) (a s : Fin 128) :
    kIn X k p (ix2 a s) = X.kd (ix5 0 0 ⟨4 * k.val + p.val, by have : k.val < 14 := k.isLt; omega⟩ a s) := by
  unfold kIn; pointwise
  refine congrArg X.kd ?_
  funext d; fin_cases d <;> apply Fin.ext <;> simp [ix5, k0_off5_eq] <;> omega
theorem dIn_apply (a : Fin 128) (h : Fin 8) : dIn X k (ix2 a h) = X.dec (ix5 0 0 ⟨k.val, k.isLt⟩ a h) := by
  unfold dIn; pointwise
  refine congrArg X.dec ?_
  funext d; fin_cases d <;> apply Fin.ext <;> simp [ix5, k0_off2_eq] <;> omega
theorem xIn_apply (h : Fin 8) (a s : Fin 128) : xIn X k h (ix2 a s) = X.xc (ix6 0 0 ⟨k.val, k.isLt⟩ h a s) := by
  unfold xIn; pointwise
  refine congrArg X.xc ?_
  funext d; fin_cases d <;> apply Fin.ext <;> simp [ix6, offX_eq] <;> omega
theorem sIn_apply (T : Vec F S14x2x16 .f32) (h : Fin 8) :
    sIn i T k h = T (ix3 ⟨k.val, k.isLt⟩ ⟨(i 0).val, (i 0).isLt⟩ ⟨8 * (i 1).val + h.val, by have : (i 1).val < 2 := (i 1).isLt; omega⟩) := by
  unfold sIn
  refine congrArg T ?_
  funext d; apply Fin.ext
  show k0_off7 i k (BitVec.ofNat 32 h.val) d + _ * _ = _
  rw [k0_off7_eq]
  fin_cases d <;> simp [ix3]
theorem vblk_apply (V : Vec Ideal S1x896x8x256 .bf16) (h : Fin 8) (a : Fin 64) (w : Fin 256) :
    vblk k h V (ix2 a w) = V (ix4 0 ⟨64 * k.val + a.val, by have : k.val < 14 := k.isLt; omega⟩ h w) := by
  show vR k a V (ix2 h w) = _
  unfold vR vrow; pointwise
  refine congrArg V ?_
  funext d; fin_cases d <;> apply Fin.ext <;> simp [ix4, k0_off1_eq] <;> omega

end Cert.KernelIdeal.Hand

end
-- ==== Proof.KerVal.lean ====
/-
  What the kernel's two result arrays hold, on real arguments: the recurrence's outputs and its last states.
-/
module

public import proofs.«01_k».proof.Proof.KerBlk

@[expose] public section

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- The arguments the program is launched on. -/
def argsOf (c : Dev nD) : Args where
  qs := arg m c main_arg0
  ks := arg m c main_arg1
  v := arg m c main_arg2
  zt := arg m c main_arg3
  qk := arg m c main_arg4
  xc := arg m c main_arg5
  kd := arg m c main_arg6
  dec := arg m c main_arg7
  h0 := arg m c main_arg8

variable (c : Dev nD) (t : Fin cfg0.N) (hA : (argsOf m c).Real)
include hA

/-- A head's step reads the factors `fac` of its head and chunk. -/
theorem reads (h : Fin 8) (k : Fin k0_t1_loop.trips) (s : FVec Ideal S128x256 .f32)
    (hs : ∀ (a : Fin 128) (w : Fin 256), s (ix2 a w) = (state (argsOf m c) (cb t) (cg t) h k.val a w : EReal)) :
    Reads (fac (argsOf m c) (cb t) (cg t) h k) (state (argsOf m c) (cb t) (cg t) h k.val) (pOf h) (hfOf h)
      (zIn (insAt m c t) k (pOf h)) (qIn (insAt m c t) k (pOf h)) (kIn (insAt m c t) k (pOf h))
      (xIn (insAt m c t) k (headOf (pOf h) (hfOf h))) (dIn (insAt m c t) k)
      (sIn (grid0.coords t) (insAt m c t).ks k (headOf (pOf h) (hfOf h))) (sIn (grid0.coords t) (insAt m c t).qs k (headOf (pOf h) (hfOf h)))
      (vblk k h (insAt m c t).v) s where
  zr j := by
    obtain ⟨a, b, rfl⟩ : ∃ a b, j = ix2 a b := ⟨_, _, eq_ix2 j⟩
    rw [zIn_apply, z_apply]; exact ⟨_, hA.zt _⟩
  qr j := by
    obtain ⟨a, b, rfl⟩ : ∃ a b, j = ix2 a b := ⟨_, _, eq_ix2 j⟩
    rw [qIn_apply, qk_apply]; exact ⟨_, hA.qk _⟩
  z i s := by rw [zIn_apply, z_apply]; exact hA.zt _
  q i s := by rw [qIn_apply, qk_apply]; exact hA.qk _
  kd a s := by rw [kIn_apply, kd_apply]; exact hA.kd _
  x i a := by rw [headOf_of, xIn_apply, xc_apply]; exact hA.xc _
  d a := by rw [headOf_of, dIn_apply, dec_apply]; exact hA.dec _
  ks := by rw [headOf_of, sIn_apply, ks_apply]; exact hA.ks _
  qs := by rw [headOf_of, sIn_apply, qs_apply]; exact hA.qs _
  v i w := by rw [vblk_apply, v_apply]; exact hA.v _
  s := hs

/-- A head's state after `n` trips is the recurrence's. -/
theorem stSeq_coe (h : Fin 8) (n : ℕ) (hn : n ≤ k0_t1_loop.trips) : ∀ (a : Fin 128) (w : Fin 256),
    stSeq (grid0.coords t) (insAt m c t) h n (ix2 a w) = (state (argsOf m c) (cb t) (cg t) h n a w : EReal) := by
  induction n with
  | zero =>
    intro a w
    show slS h (insAt m c t).h0 (ix2 a w) = _
    rw [slS_apply, h0_apply]; exact hA.h0 _
  | succ n ih =>
    intro a w
    have hk : n < k0_t1_loop.trips := hn
    rw [stSeq_succ _ _ h ⟨n, hk⟩]
    refine (headS_coe (reads m c t hA h ⟨n, hk⟩ _ (ih hk.le)) a w).trans ?_
    exact congrArg (fun S : Fin 128 → Fin 256 → ℝ => ((S a w : ℝ) : EReal)) (state_succ (argsOf m c) (cb t) (cg t) h ⟨n, hk⟩).symm

/-- A head's output rows are the recurrence's. -/
theorem newO_coe (h : Fin 8) (k : Fin k0_t1_loop.trips) (i : Fin 64) (w : Fin 256) :
    newO (grid0.coords t) (insAt m c t) k (pOf h) (hfOf h) (vblk k h (insAt m c t).v) (stSeq (grid0.coords t) (insAt m c t) h k.val) (ix2 i w)
      = (outR (argsOf m c) (cb t) (cg t) h k i w : EReal) :=
  headO_coe (reads m c t hA h k _ (stSeq_coe m c t hA h k.val k.isLt.le)) i w

/-- The first result array. -/
theorem final_o : (dats m 0 c).arrAt 9 cfg0.N = oArr (argsOf m c) := by
  refine (dats m 0 c).arrAt_eq_of_covers 9 _ (by decide +kernel) fun t hf y => ?_
  blk_simp
  rw [after0_9]
  have y1 : (y 1).val < 896 := (y 1).isLt
  have y2 : (y 2).val < 2048 := (y 2).isLt
  have g2 := (cg t).isLt
  have e : (win0_9.blk t).view.emb y = ix3 (cb t) (⟨(y 1).val, y1⟩ : Fin 896) (⟨2048 * (cg t).val + (y 2).val, by omega⟩ : Fin 4096) := by blk_ext [ie9]
  rw [e]
  refine (newO_coe m c t hA ⟨(y 2).val / 256, by omega⟩ ⟨(y 1).val / 64, by show _ < 14; omega⟩ ⟨(y 1).val % 64, by omega⟩ ⟨(y 2).val % 256, by omega⟩).trans ?_
  exact (oArr_at (argsOf m c) (cb t) (cg t) _ _ _ _ _ _ (by show (y 1).val = _; simp only; omega) (by simp only; omega)).symm

/-- The second result array. -/
theorem final_s : (dats m 0 c).arrAt 10 cfg0.N = sArr (argsOf m c) := by
  refine (dats m 0 c).arrAt_eq_of_covers 10 _ (by decide +kernel) fun t hf y => ?_
  blk_simp
  rw [after0_10]
  have y1 : (y 1).val < 8 := (y 1).isLt
  have y2 : (y 2).val < 128 := (y 2).isLt
  have y3 : (y 3).val < 256 := (y 3).isLt
  have g2 := (cg t).isLt
  have e : (win0_10.blk t).view.emb y
      = ix4 (cb t) (⟨8 * (cg t).val + (y 1).val, by omega⟩ : Fin 16) (⟨(y 2).val, y2⟩ : Fin 128) (⟨(y 3).val, y3⟩ : Fin 256) := by blk_ext [ie10]
  rw [e]
  refine (stSeq_coe m c t hA ⟨(y 1).val, y1⟩ k0_t1_loop.trips le_rfl ⟨(y 2).val, y2⟩ ⟨(y 3).val, y3⟩).trans ?_
  exact (sArr_at (argsOf m c) (cb t) (cg t) ⟨(y 1).val, y1⟩ _ rfl _ _).symm

omit hA in
/-- The kernel's run on real arguments: both results, and the arguments unchanged. -/
theorem run (hA : ∀ c, (argsOf m c).Real) :
    θ_run defs (onTc (τ := τ) (main (F := Ideal))) ⟨m, fun _ => 0, ρ⟩ (fun r => ∀ c : Dev nD,
      r.2.mem ((c.tc : Thread nD τ).loc main_v2_0) = oArr (argsOf m c)
      ∧ r.2.mem ((c.tc : Thread nD τ).loc main_v2_1) = sArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (final_o m c (hA c)), ((h.1 c).1 10).trans (final_s m c (hA c)), h.2.1 c⟩)
    (θ_run_and (run_main m ρ) (frame m ρ))

end Cert.KernelIdeal.Hand

end
-- ==== Proof.RefRun.lean ====
/-
  The reference's run stated over its loop's step: a valuation that holds a state goes on holding it with one step applied, so
  the results are fields of the step iterated from the initial state.
-/
module

public import proofs.«01_k».proof.Proof.Gen.ReferenceIdeal.Run
public import proofs.«01_k».proof.Proof.Gen.ReferenceIdeal.Step

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v35_7) = s.main_v35_7
  f_8 : V0 (Proc.devRef .tc main_v35_8) = s.main_v35_8
  f_0 : V0 (Proc.devRef .tc main_v35_0) = s.main_v35_0
  f_1 : V0 (Proc.devRef .tc main_v35_1) = s.main_v35_1
  f_2 : V0 (Proc.devRef .tc main_v35_2) = s.main_v35_2
  f_3 : V0 (Proc.devRef .tc main_v35_3) = s.main_v35_3
  f_4 : V0 (Proc.devRef .tc main_v35_4) = s.main_v35_4
  f_5 : V0 (Proc.devRef .tc main_v35_5) = s.main_v35_5
  n_6 : V0 (Proc.devRef .tc main_v35_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128 : (Proc.devRef .tc main_while0b_v39 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x16x64x128 (V0 (Proc.devRef .tc main_v35_1)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (shapeCast S2x16x64x128 (Host.dynamicSlice S1x2x16x64x128 (V0 (Proc.devRef .tc main_v35_1)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128 : (Proc.devRef .tc main_while0b_v40 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x16x64x256 (V0 (Proc.devRef .tc main_v35_2)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x256_S1x2x16x64x256 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (shapeCast S2x16x64x256 (Host.dynamicSlice S1x2x16x64x256 (V0 (Proc.devRef .tc main_v35_2)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x256_S1x2x16x64x256) shapeCasts_S1x2x16x64x256_S2x16x64x256 : (Proc.devRef .tc main_while0b_v41 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_6]
  try rfl
set_option maxRecDepth 8192 in
theorem al_23 (h : Holds V0 s j) : (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64 : (Proc.devRef .tc main_while0b_v42 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call4_c_2 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x2x16x128x64 (V0 (Proc.devRef .tc main_v35_4)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x128x64_S1x2x16x128x64 : (Proc.devRef .tc main_while0b_call4_v0 : DevRef τ sig).ty.Contents (Elt F)) = Cert.ReferenceIdeal.Step.b28 j s := by
  unfold Cert.ReferenceIdeal.Step.b28
  rw [← al_24 h, ← al_25 h, ← al_26 h, ← al_27 h, h.f_4, h.n_6]
  try rfl
set_option maxRecDepth 8192 in
theorem al_29 (h : Holds V0 s j) : (shapeCast S2x16x128x64 (Host.dynamicSlice S1x2x16x128x64 (V0 (Proc.devRef .tc main_v35_4)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x128x64_S1x2x16x128x64) shapeCasts_S1x2x16x128x64_S2x16x128x64 : (Proc.devRef .tc main_while0b_v43 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constantI S_ 32 0#32 : (Proc.devRef .tc main_while0b_call5_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call5_c_1 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128 : (Proc.devRef .tc main_while0b_call5_v0 : DevRef τ sig).ty.Contents (Elt F)) = Cert.ReferenceIdeal.Step.b33 j s := by
  unfold Cert.ReferenceIdeal.Step.b33
  rw [← al_30 h, ← al_31 h, ← al_32 h, h.f_5, h.n_6]
  try rfl
set_option maxRecDepth 8192 in
theorem al_34 (h : Holds V0 s j) : (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128 : (Proc.devRef .tc main_while0b_v44 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (Host.dotGeneral dot_S2x16x64x128_S2x16x128x256_S2x16x64x256_3_2_2_3_01_01 (some .fp32) (shapeCast S2x16x64x128 (Host.dynamicSlice S1x2x16x64x128 (V0 (Proc.devRef .tc main_v35_1)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7)) : (Proc.devRef .tc main_while0b_v45 : DevRef τ sig).ty.Contents (Elt F)) = Cert.ReferenceIdeal.Step.b35 j s := by
  unfold Cert.ReferenceIdeal.Step.b35
  rw [← al_11 h, h.f_7]
  try rfl
set_option maxRecDepth 8192 in
theorem al_36 (h : Holds V0 s j) : (res_main_while0b_v46 V0 : (Proc.devRef .tc main_while0b_v46 : DevRef τ sig).ty.Contents (Elt F)) = Cert.ReferenceIdeal.Step.b36 j s := by
  unfold res_main_while0b_v46 Cert.ReferenceIdeal.Step.b36
  rw [← al_17 h, ← al_35 h]
  try rfl
set_option maxRecDepth 8192 in
theorem al_37 (h : Holds V0 s j) : (Host.dotGeneral dot_S2x16x64x128_S2x16x128x256_S2x16x64x256_3_2_2_3_01_01 (some .fp32) (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7)) : (Proc.devRef .tc main_while0b_v47 : DevRef τ sig).ty.Contents (Elt F)) = Cert.ReferenceIdeal.Step.b37 j s := by
  unfold Cert.ReferenceIdeal.Step.b37
  rw [← al_5 h, h.f_7]
  try rfl
set_option maxRecDepth 8192 in
theorem al_38 (h : Holds V0 s j) : (Host.dotGeneral dot_S2x16x64x64_S2x16x64x256_S2x16x64x256_3_2_2_3_01_01 (some .fp32) (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64) (res_main_while0b_v46 V0) : (Proc.devRef .tc main_while0b_v48 : DevRef τ sig).ty.Contents (Elt F)) = Cert.ReferenceIdeal.Step.b38 j s := by
  unfold Cert.ReferenceIdeal.Step.b38
  rw [← al_23 h, ← al_36 h]
  try rfl
set_option maxRecDepth 8192 in
theorem al_39 (h : Holds V0 s j) : (addf (Host.dotGeneral dot_S2x16x64x128_S2x16x128x256_S2x16x64x256_3_2_2_3_01_01 (some .fp32) (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7))) (Host.dotGeneral dot_S2x16x64x64_S2x16x64x256_S2x16x64x256_3_2_2_3_01_01 (some .fp32) (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64) (res_main_while0b_v46 V0)) : (Proc.devRef .tc main_while0b_v49 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (constant S_ .f32 0x3DB504F3#32 : (Proc.devRef .tc main_while0b_cst_8 : DevRef τ sig).ty.Contents (Elt F)) = Cert.ReferenceIdeal.Step.b40 j s := by
  unfold Cert.ReferenceIdeal.Step.b40
  rfl
set_option maxRecDepth 8192 in
theorem al_41 (h : Holds V0 s j) : (broadcastInDim S2x16x64x256 ![] bcast_S_S2x16x64x256 (constant S_ .f32 0x3DB504F3#32) : (Proc.devRef .tc main_while0b_v50 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (mulf (broadcastInDim S2x16x64x256 ![] bcast_S_S2x16x64x256 (constant S_ .f32 0x3DB504F3#32)) (addf (Host.dotGeneral dot_S2x16x64x128_S2x16x128x256_S2x16x64x256_3_2_2_3_01_01 (some .fp32) (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7))) (Host.dotGeneral dot_S2x16x64x64_S2x16x64x256_S2x16x64x256_3_2_2_3_01_01 (some .fp32) (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64) (res_main_while0b_v46 V0))) : (Proc.devRef .tc main_while0b_v51 : DevRef τ sig).ty.Contents (Elt F)) = Cert.ReferenceIdeal.Step.b42 j s := by
  unfold Cert.ReferenceIdeal.Step.b42
  rw [← al_41 h, ← al_39 h]
  try rfl
set_option maxRecDepth 8192 in
theorem al_43 (h : Holds V0 s j) : (broadcastInDim S2x16x128x1 ![0, 1, 2] bcast_S2x16x128_S2x16x128x1_0_1_2 (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128) : (Proc.devRef .tc main_while0b_v52 : DevRef τ sig).ty.Contents (Elt F)) = Cert.ReferenceIdeal.Step.b43 j s := by
  unfold Cert.ReferenceIdeal.Step.b43
  rw [← al_34 h]
  try rfl
set_option maxRecDepth 8192 in
theorem al_44 (h : Holds V0 s j) : (broadcastInDim S2x16x128x256 ![0, 1, 2, 3] bcast_S2x16x128x1_S2x16x128x256_0_1_2_3 (broadcastInDim S2x16x128x1 ![0, 1, 2] bcast_S2x16x128_S2x16x128x1_0_1_2 (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128)) : (Proc.devRef .tc main_while0b_v53 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (mulf (broadcastInDim S2x16x128x256 ![0, 1, 2, 3] bcast_S2x16x128x1_S2x16x128x256_0_1_2_3 (broadcastInDim S2x16x128x1 ![0, 1, 2] bcast_S2x16x128_S2x16x128x1_0_1_2 (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128))) (V0 (Proc.devRef .tc main_v35_7)) : (Proc.devRef .tc main_while0b_v54 : DevRef τ sig).ty.Contents (Elt F)) = Cert.ReferenceIdeal.Step.b45 j s := by
  unfold Cert.ReferenceIdeal.Step.b45
  rw [← al_44 h, h.f_7]
  try rfl
set_option maxRecDepth 8192 in
theorem al_46 (h : Holds V0 s j) : (Host.dotGeneral dot_S2x16x128x64_S2x16x64x256_S2x16x128x256_3_2_2_3_01_01 (some .fp32) (shapeCast S2x16x128x64 (Host.dynamicSlice S1x2x16x128x64 (V0 (Proc.devRef .tc main_v35_4)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x128x64_S1x2x16x128x64) shapeCasts_S1x2x16x128x64_S2x16x128x64) (res_main_while0b_v46 V0) : (Proc.devRef .tc main_while0b_v55 : DevRef τ sig).ty.Contents (Elt F)) = Cert.ReferenceIdeal.Step.b46 j s := by
  unfold Cert.ReferenceIdeal.Step.b46
  rw [← al_29 h, ← al_36 h]
  try rfl
set_option maxRecDepth 8192 in
theorem al_47 (h : Holds V0 s j) : (addf (mulf (broadcastInDim S2x16x128x256 ![0, 1, 2, 3] bcast_S2x16x128x1_S2x16x128x256_0_1_2_3 (broadcastInDim S2x16x128x1 ![0, 1, 2] bcast_S2x16x128_S2x16x128x1_0_1_2 (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128))) (V0 (Proc.devRef .tc main_v35_7))) (Host.dotGeneral dot_S2x16x128x64_S2x16x64x256_S2x16x128x256_3_2_2_3_01_01 (some .fp32) (shapeCast S2x16x128x64 (Host.dynamicSlice S1x2x16x128x64 (V0 (Proc.devRef .tc main_v35_4)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x128x64_S1x2x16x128x64) shapeCasts_S1x2x16x128x64_S2x16x128x64) (res_main_while0b_v46 V0)) : (Proc.devRef .tc main_while0b_v56 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (broadcastInDim S1x2x16x64x256 ![1, 2, 3, 4] bcast_S2x16x64x256_S1x2x16x64x256_1_2_3_4 (mulf (broadcastInDim S2x16x64x256 ![] bcast_S_S2x16x64x256 (constant S_ .f32 0x3DB504F3#32)) (addf (Host.dotGeneral dot_S2x16x64x128_S2x16x128x256_S2x16x64x256_3_2_2_3_01_01 (some .fp32) (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7))) (Host.dotGeneral dot_S2x16x64x64_S2x16x64x256_S2x16x64x256_3_2_2_3_01_01 (some .fp32) (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64) (res_main_while0b_v46 V0)))) : (Proc.devRef .tc main_while0b_call6_v0 : DevRef τ sig).ty.Contents (Elt F)) = Cert.ReferenceIdeal.Step.b48 j s := by
  unfold Cert.ReferenceIdeal.Step.b48
  rw [← al_42 h]
  try rfl
set_option maxRecDepth 8192 in
theorem al_49 (h : Holds V0 s j) : (constantI S_ 32 0#32 : (Proc.devRef .tc main_while0b_call6_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call6_c_0 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call6_c_1 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call6_c_2 : DevRef τ sig).ty.Contents (Elt F)) = Cert.ReferenceIdeal.Step.b52 j s := by
  unfold Cert.ReferenceIdeal.Step.b52
  rfl
set_option maxRecDepth 8192 in
theorem al_53 (h : Holds V0 s j) : (Host.dynamicUpdateSlice (V0 (Proc.devRef .tc main_v35_8)) (broadcastInDim S1x2x16x64x256 ![1, 2, 3, 4] bcast_S2x16x64x256_S1x2x16x64x256_1_2_3_4 (mulf (broadcastInDim S2x16x64x256 ![] bcast_S_S2x16x64x256 (constant S_ .f32 0x3DB504F3#32)) (addf (Host.dotGeneral dot_S2x16x64x128_S2x16x128x256_S2x16x64x256_3_2_2_3_01_01 (some .fp32) (shapeCast S2x16x64x128 (Host.dynamicSlice S1x2x16x64x128 (V0 (Proc.devRef .tc main_v35_0)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x128_S1x2x16x64x128) shapeCasts_S1x2x16x64x128_S2x16x64x128) (V0 (Proc.devRef .tc main_v35_7))) (Host.dotGeneral dot_S2x16x64x64_S2x16x64x256_S2x16x64x256_3_2_2_3_01_01 (some .fp32) (shapeCast S2x16x64x64 (Host.dynamicSlice S1x2x16x64x64 (V0 (Proc.devRef .tc main_v35_3)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x64x64_S1x2x16x64x64) shapeCasts_S1x2x16x64x64_S2x16x64x64) (res_main_while0b_v46 V0))))) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) updateFits_S14x2x16x64x256_S1x2x16x64x256 : (Proc.devRef .tc main_while0b_v57 : DevRef τ sig).ty.Contents (Elt F)) = Cert.ReferenceIdeal.Step.b53 j s := by
  unfold Cert.ReferenceIdeal.Step.b53
  rw [← al_48 h, ← al_49 h, ← al_50 h, ← al_51 h, ← al_52 h, h.f_8, h.n_6]
  try rfl

/-! One trip's step of the carried values is `step`, field by field; a counter steps to the next number. -/

theorem step_7 (h : Holds V0 s j) : step_main_v35_7 V0 = (step j s).main_v35_7 := by
  unfold step_main_v35_7 Cert.ReferenceIdeal.Step.step
  show id (addf (mulf (broadcastInDim S2x16x128x256 ![0, 1, 2, 3] bcast_S2x16x128x1_S2x16x128x256_0_1_2_3 (broadcastInDim S2x16x128x1 ![0, 1, 2] bcast_S2x16x128_S2x16x128x1_0_1_2 (shapeCast S2x16x128 (Host.dynamicSlice S1x2x16x128 (V0 (Proc.devRef .tc main_v35_5)) (fun k => (((![V0 (Proc.devRef .tc main_v35_6), constantI S_ 32 0#32, constantI S_ 32 0#32, constantI S_ 32 0#32] : Fin 4 → (⟨S_, .i32⟩ : BufTy).Contents (Elt F))) k (Shape.Idx.first h_S_)).toInt) sliceFits_S14x2x16x128_S1x2x16x128) shapeCasts_S1x2x16x128_S2x16x128))) (V0 (Proc.devRef .tc main_v35_7))) (Host.dotGeneral dot_S2x16x128x64_S2x16x64x256_S2x16x128x256_3_2_2_3_01_01 (some .fp32) (shapeCast S2x16x128x64 (Host.dynamicSlice S1x2x16x128x64 (V0 (Proc.devRef .tc main_v35_4)) (fun k => (((![V0 (Proc.devRef .tc main_v35_6), constantI S_ 32 0#32, constantI S_ 32 0#32, constantI S_ 32 0#32, constantI S_ 32 0#32] : Fin 5 → (⟨S_, .i32⟩ : BufTy).Contents (Elt F))) k (Shape.Idx.first h_S_)).toInt) sliceFits_S14x2x16x128x64_S1x2x16x128x64) shapeCasts_S1x2x16x128x64_S2x16x128x64) (res_main_while0b_v46 V0))) = _
  rw [al_47 h]
  try rfl
set_option maxRecDepth 8192 in
theorem step_8 (h : Holds V0 s j) : step_main_v35_8 V0 = (step j s).main_v35_8 := by
  unfold step_main_v35_8 Cert.ReferenceIdeal.Step.step
  exact al_53 h
theorem step_6 (h : Holds V0 s j) : step_main_v35_6 V0 = constantI S_ 32 (BitVec.ofNat 32 (j + 1)) := by
  unfold step_main_v35_6
  rw [h.n_6]
  funext i
  show BitVec.ofNat 32 j + 1#32 = BitVec.ofNat 32 (j + 1)
  simp only [BitVec.ofNat_add]

set_option maxRecDepth 8192 in
theorem out_main_v38_holds (h : Holds V0 s j) : out_main_v38 V0 = Cert.ReferenceIdeal.Step.R_main_v38 s := by
  unfold out_main_v38 Cert.ReferenceIdeal.Step.R_main_v38
  rw [h.f_8]
  try rfl

/-- One trip keeps the valuation holding: `step` of the state, the same set-up values, the next number. -/
theorem holds_step (h : Holds V0 s j) : Holds (STEP V0) (step j s) (j + 1) where
  f_7 := (STEP_main_v35_7 V0).trans (step_7 h)
  f_8 := (STEP_main_v35_8 V0).trans (step_8 h)
  n_6 := (STEP_main_v35_6 V0).trans (step_6 h)
  f_0 := (STEP_main_v35_0 V0).trans h.f_0
  f_1 := (STEP_main_v35_1 V0).trans h.f_1
  f_2 := (STEP_main_v35_2 V0).trans h.f_2
  f_3 := (STEP_main_v35_3 V0).trans h.f_3
  f_4 := (STEP_main_v35_4 V0).trans h.f_4
  f_5 := (STEP_main_v35_5 V0).trans h.f_5

/-- The state the first trip starts from, of the memory the run starts from. -/
abbrev initState (m : (ℓ : Loc nD τ sig) → Buf (Elt F) ℓ) (c : Dev nD) : State F :=
  init (m ((c.tc : Thread nD τ).loc main_arg8)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 14 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v38) = Cert.ReferenceIdeal.Step.R_main_v38 (it c 14)
      ∧ r.2.mem ((c.tc : Thread nD τ).loc main_v35_7) = (it c 14).main_v35_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 14
    ⟨(h c).1.trans (out_main_v38_holds hk), (h c).2.1.trans hk.f_7, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.Hand

end
-- ==== Proof.RefAt.lean ====
/-
  The reference's arrays before its loop, and a chunk taken out of them, at an index.
-/
module

public import proofs.«01_k».proof.Proof.RefRun
public import proofs.«01_k».proof.Proof.Spec
public import Idealize.ShloMosaic.Lib.DynamicIndex
public import Idealize.ShloMosaic.Lib.Pipeline.Value

@[expose] public section

noncomputable section

namespace Cert.ReferenceIdeal.Hand

open Cert.ReferenceIdeal Cert.ReferenceIdeal.Gen Cert.Spec Cert.ReferenceIdeal.Step
open Idealize.ShloMosaic

/-! ## The arrays the loop reads -/

section
variable (A : Args) (t : Fin 14) (b g : Fin 2) (h : Fin 8)

/-- The head's number. -/
abbrev hd (g : Fin 2) (h : Fin 8) : Fin 16 := ⟨8 * g.val + h.val, by omega⟩

theorem v4_at (i s : Fin 64) : A_main_v4 (F := Ideal) A.qs A.ks A.v A.zt A.qk A.xc A.kd A.dec (ix5 t b (hd g h) i s)
    = A.zt (ix4 b g ⟨68 * i.val + (4 * t.val + h.val % 4), by omega⟩ ⟨64 * (h.val / 4) + s.val, by omega⟩) := by
  have e1 : (⟨i.val * 68 + (t.val * 4 + (8 * g.val + h.val) % 4), by omega⟩ : Fin 4352) = ⟨68 * i.val + (4 * t.val + h.val % 4), by omega⟩ := Fin.ext (by simp only; omega)
  have e2 : (⟨(8 * g.val + h.val) / 4 % 2 * 64 + s.val, by omega⟩ : Fin 128) = ⟨64 * (h.val / 4) + s.val, by omega⟩ := Fin.ext (by simp only; omega)
  have e3 : (⟨(8 * g.val + h.val) / 8, by omega⟩ : Fin 2) = g := Fin.ext (by simp only; omega)
  pointwise [A_main_v4, A_main_v3, A_main_v2, A_main_v1, A_main_v0]
  rw [e1, e2, e3]
theorem v7_at (i s : Fin 64) : A_main_v7 (F := Ideal) A.qs A.ks A.v A.zt A.qk A.xc A.kd A.dec (ix5 t b (hd g h) i s)
    = A.qk (ix5 b g ⟨4 * t.val + h.val % 4, by omega⟩ i ⟨64 * (h.val / 4) + s.val, by omega⟩) := by
  have e1 : (⟨t.val * 4 + (8 * g.val + h.val) % 4, by omega⟩ : Fin 56) = ⟨4 * t.val + h.val % 4, by omega⟩ := Fin.ext (by simp only; omega)
  have e2 : (⟨(8 * g.val + h.val) / 4 % 2 * 64 + s.val, by omega⟩ : Fin 128) = ⟨64 * (h.val / 4) + s.val, by omega⟩ := Fin.ext (by simp only; omega)
  have e3 : (⟨(8 * g.val + h.val) / 8, by omega⟩ : Fin 2) = g := Fin.ext (by simp only; omega)
  pointwise [A_main_v7, A_main_v6, A_main_v5]
  rw [e1, e2, e3]
theorem v33_at (c : Fin 128) (s : Fin 64) : A_main_v33 (F := Ideal) A.qs A.ks A.v A.zt A.qk A.xc A.kd A.dec (ix5 t b (hd g h) c s)
    = A.kd (ix5 b g ⟨4 * t.val + h.val % 4, by omega⟩ c ⟨64 * (h.val / 4) + s.val, by omega⟩) := by
  have e1 : (⟨t.val * 4 + (8 * g.val + h.val) % 4, by omega⟩ : Fin 56) = ⟨4 * t.val + h.val % 4, by omega⟩ := Fin.ext (by simp only; omega)
  have e2 : (⟨(8 * g.val + h.val) / 4 % 2 * 64 + s.val, by omega⟩ : Fin 128) = ⟨64 * (h.val / 4) + s.val, by omega⟩ := Fin.ext (by simp only; omega)
  have e3 : (⟨(8 * g.val + h.val) / 8, by omega⟩ : Fin 2) = g := Fin.ext (by simp only; omega)
  pointwise [A_main_v33, A_main_v10, A_main_v9, A_main_v8]
  rw [e1, e2, e3]
theorem v20_at (i : Fin 64) (w : Fin 256) : A_main_v20 (F := Ideal) A.qs A.ks A.v A.zt A.qk A.xc A.kd A.dec (ix5 t b (hd g h) i w)
    = A.v (ix4 b ⟨64 * t.val + i.val, by omega⟩ ⟨8 * g.val + h.val, by omega⟩ w) := by
  have e1 : (⟨t.val * 64 + i.val, by omega⟩ : Fin 896) = ⟨64 * t.val + i.val, by omega⟩ := Fin.ext (by simp only; omega)
  pointwise [A_main_v20, A_main_v19, A_main_v18]
  rw [e1]
theorem v17_at (c : Fin 128) : A_main_v17 (F := Ideal) A.qs A.ks A.v A.zt A.qk A.xc A.kd A.dec (ix4 t b (hd g h) c) = A.dec (ix5 b g t c h) := by
  have e3 : (⟨(8 * g.val + h.val) / 8, by omega⟩ : Fin 2) = g := Fin.ext (by simp only; omega)
  have e4 : (⟨(8 * g.val + h.val) % 8, by omega⟩ : Fin 8) = h := Fin.ext (by simp only; omega)
  pointwise [A_main_v17, A_main_v16]
  rw [e3, e4]
theorem v26_at (i : Fin 64) (w : Fin 128) : A_main_v26 (F := Ideal) A.qs A.ks A.v A.zt A.qk A.xc A.kd A.dec (ix5 t b (hd g h) i w)
    = A.xc (ix6 b g t h ⟨i.val, by omega⟩ w) * A.ks (ix3 b t ⟨8 * g.val + h.val, by omega⟩) := by
  pointwise [A_main_v26, A_main_v25, A_main_v24, A_main_v23, A_main_v14, A_main_v13, A_main_v12, A_main_v11]
theorem v30_at (i : Fin 64) (w : Fin 128) : A_main_v30 (F := Ideal) A.qs A.ks A.v A.zt A.qk A.xc A.kd A.dec (ix5 t b (hd g h) i w)
    = A.qs (ix3 b t ⟨8 * g.val + h.val, by omega⟩) * A.xc (ix6 b g t h ⟨64 + i.val, by omega⟩ w) := by
  pointwise [A_main_v30, A_main_v29, A_main_v22, A_main_v21, A_main_v15, A_main_v13, A_main_v12, A_main_v11]
theorem v32_at (i s : Fin 64) : A_main_v32 (F := Ideal) A.qs A.ks A.v A.zt A.qk A.xc A.kd A.dec (ix5 t b (hd g h) i s)
    = A.qs (ix3 b t ⟨8 * g.val + h.val, by omega⟩) * A_main_v7 (F := Ideal) A.qs A.ks A.v A.zt A.qk A.xc A.kd A.dec (ix5 t b (hd g h) i s) := by
  pointwise [A_main_v32, A_main_v31, A_main_v22, A_main_v21]
theorem v27_at (i : Fin 64) (w : Fin 128) : A_main_v27 (F := Ideal) A.qs A.ks A.v A.zt A.qk A.xc A.kd A.dec (ix5 t b (hd g h) i w)
    = ∑ s : Fin 64, A_main_v4 (F := Ideal) A.qs A.ks A.v A.zt A.qk A.xc A.kd A.dec (ix5 t b (hd g h) i s) * A_main_v26 (F := Ideal) A.qs A.ks A.v A.zt A.qk A.xc A.kd A.dec (ix5 t b (hd g h) s w) := by
  pointwise [A_main_v27, dot_S14x2x16x64x64_S14x2x16x64x128_S14x2x16x64x128_4_3_3_4_012_012]
theorem v28_at (i : Fin 64) (w : Fin 256) : A_main_v28 (F := Ideal) A.qs A.ks A.v A.zt A.qk A.xc A.kd A.dec (ix5 t b (hd g h) i w)
    = ∑ s : Fin 64, A_main_v4 (F := Ideal) A.qs A.ks A.v A.zt A.qk A.xc A.kd A.dec (ix5 t b (hd g h) i s) * A_main_v20 (F := Ideal) A.qs A.ks A.v A.zt A.qk A.xc A.kd A.dec (ix5 t b (hd g h) s w) := by
  pointwise [A_main_v28, dot_S14x2x16x64x64_S14x2x16x64x256_S14x2x16x64x256_4_3_3_4_012_012]
end

/-! ## A trip's values -/

section
variable (j : ℕ) (hj : j < 14) (s : State Ideal) (b : Fin 2) (h : Fin 16)
include hj

theorem b5_at (x : Fin 64) (y : Fin 128) : b5 j s (ix4 b h x y) = s.main_v35_0 (ix5 ⟨j, hj⟩ b h x y) := by
  unfold b5 b4
  rw [Host.dynamicSlice_eq_extractStridedSlice S1x2x16x64x128 s.main_v35_0 _ ![j, 0, 0, 0, 0] _ ⟨rfl, fun a => by fin_cases a <;> simp <;> omega⟩
    (fun a => by fin_cases a <;> [exact toInt_ofNat_of_lt (by omega); rfl; rfl; rfl; rfl])]
  pointwise
theorem b11_at (x : Fin 64) (y : Fin 128) : b11 j s (ix4 b h x y) = s.main_v35_1 (ix5 ⟨j, hj⟩ b h x y) := by
  unfold b11 b10
  rw [Host.dynamicSlice_eq_extractStridedSlice S1x2x16x64x128 s.main_v35_1 _ ![j, 0, 0, 0, 0] _ ⟨rfl, fun a => by fin_cases a <;> simp <;> omega⟩
    (fun a => by fin_cases a <;> [exact toInt_ofNat_of_lt (by omega); rfl; rfl; rfl; rfl])]
  pointwise
theorem b17_at (x : Fin 64) (y : Fin 256) : b17 j s (ix4 b h x y) = s.main_v35_2 (ix5 ⟨j, hj⟩ b h x y) := by
  unfold b17 b16
  rw [Host.dynamicSlice_eq_extractStridedSlice S1x2x16x64x256 s.main_v35_2 _ ![j, 0, 0, 0, 0] _ ⟨rfl, fun a => by fin_cases a <;> simp <;> omega⟩
    (fun a => by fin_cases a <;> [exact toInt_ofNat_of_lt (by omega); rfl; rfl; rfl; rfl])]
  pointwise
theorem b23_at (x : Fin 64) (y : Fin 64) : b23 j s (ix4 b h x y) = s.main_v35_3 (ix5 ⟨j, hj⟩ b h x y) := by
  unfold b23 b22
  rw [Host.dynamicSlice_eq_extractStridedSlice S1x2x16x64x64 s.main_v35_3 _ ![j, 0, 0, 0, 0] _ ⟨rfl, fun a => by fin_cases a <;> simp <;> omega⟩
    (fun a => by fin_cases a <;> [exact toInt_ofNat_of_lt (by omega); rfl; rfl; rfl; rfl])]
  pointwise
theorem b29_at (x : Fin 128) (y : Fin 64) : b29 j s (ix4 b h x y) = s.main_v35_4 (ix5 ⟨j, hj⟩ b h x y) := by
  unfold b29 b28
  rw [Host.dynamicSlice_eq_extractStridedSlice S1x2x16x128x64 s.main_v35_4 _ ![j, 0, 0, 0, 0] _ ⟨rfl, fun a => by fin_cases a <;> simp <;> omega⟩
    (fun a => by fin_cases a <;> [exact toInt_ofNat_of_lt (by omega); rfl; rfl; rfl; rfl])]
  pointwise
theorem b34_at (x : Fin 128) : b34 j s (ix3 b h x) = s.main_v35_5 (ix4 ⟨j, hj⟩ b h x) := by
  unfold b34 b33
  rw [Host.dynamicSlice_eq_extractStridedSlice S1x2x16x128 s.main_v35_5 _ ![j, 0, 0, 0] _ ⟨rfl, fun a => by fin_cases a <;> simp <;> omega⟩
    (fun a => by fin_cases a <;> [exact toInt_ofNat_of_lt (by omega); rfl; rfl; rfl])]
  pointwise

/-- The stack of outputs after a trip: the trip's at its own place, the others as they were. -/
theorem b53_at (t : Fin 14) (i : Fin 64) (w : Fin 256) :
    b53 j s (ix5 t b h i w) = if t.val = j then b42 j s (ix4 b h i w) else s.main_v35_8 (ix5 t b h i w) := by
  unfold b53
  refine (congrFun (Host.dynamicUpdateSlice_eq_updateSlice (s := S14x2x16x64x256) (u := S1x2x16x64x256) s.main_v35_8 (b48 j s) _ _ ![j, 0, 0, 0, 0]
    (fun a => by
      fin_cases a
      · show (min (max (BitVec.ofNat 32 j).toInt 0) 13).toNat = j
        rw [toInt_ofNat_of_lt (by omega)]; omega
      all_goals rfl) ⟨rfl, fun a => by fin_cases a <;> simp <;> omega⟩) _).trans ?_
  by_cases e : t.val = j
  · rw [if_pos e]
    pointwise (disch := omega) [b48, dif_pos, dif_neg]
  · rw [if_neg e]
    pointwise (disch := omega) [b48, dif_pos, dif_neg]

omit hj
theorem b36_at (i : Fin 64) (w : Fin 256) : b36 j s (ix4 b h i w)
    = b17 j s (ix4 b h i w) - ∑ c : Fin 128, b11 j s (ix4 b h i c) * s.main_v35_7 (ix4 b h c w) := by
  pointwise [b36, b35, dot_S2x16x64x128_S2x16x128x256_S2x16x64x256_3_2_2_3_01_01]
theorem b42_at (i : Fin 64) (w : Fin 256) : b42 j s (ix4 b h i w)
    = Ideal.ofBits .f32 0x3DB504F3#32 * ((∑ c : Fin 128, b5 j s (ix4 b h i c) * s.main_v35_7 (ix4 b h c w))
        + ∑ r : Fin 64, b23 j s (ix4 b h i r) * b36 j s (ix4 b h r w)) := by
  pointwise [b42, b41, b40, b39, b38, b37, dot_S2x16x64x128_S2x16x128x256_S2x16x64x256_3_2_2_3_01_01,
    dot_S2x16x64x64_S2x16x64x256_S2x16x64x256_3_2_2_3_01_01]
theorem b47_at (c : Fin 128) (w : Fin 256) : b47 j s (ix4 b h c w)
    = b34 j s (ix3 b h c) * s.main_v35_7 (ix4 b h c w) + ∑ r : Fin 64, b29 j s (ix4 b h c r) * b36 j s (ix4 b h r w) := by
  pointwise [b47, b46, b45, b44, b43, dot_S2x16x128x64_S2x16x64x256_S2x16x128x256_3_2_2_3_01_01]
end

theorem R_at (s : State Ideal) (b g : Fin 2) (h : Fin 8) (t : Fin 14) (i : Fin 64) (w : Fin 256) (r : Fin 896) (q : Fin 4096)
    (hr : r.val = 64 * t.val + i.val) (hq : q.val = 2048 * g.val + (256 * h.val + w.val)) :
    R_main_v38 s (ix3 b r q) = s.main_v35_8 (ix5 t b (hd g h) i w) := by
  have key : ∀ (t' : Fin 14) (n' : Fin 16) (i' : Fin 64) (w' : Fin 256), t' = t → n' = hd g h → i' = i → w' = w →
      s.main_v35_8 (ix5 t' b n' i' w') = s.main_v35_8 (ix5 t b (hd g h) i w) := by
    rintro _ _ _ _ rfl rfl rfl rfl; rfl
  pointwise [R_main_v38]
  exact key _ _ _ _ (Fin.ext (by simp only; omega)) (Fin.ext (by simp only; omega)) (Fin.ext (by simp only; omega)) (Fin.ext (by simp only; omega))

end Cert.ReferenceIdeal.Hand

end
-- ==== Proof.RefVal.lean ====
/-
  What the reference's two results hold, on real arguments: the recurrence's outputs and its last states.
-/
module

public import proofs.«01_k».proof.Proof.RefAt
public import Idealize.ShloMosaic.Lib.Quiescent

@[expose] public section

noncomputable section

namespace Cert.ReferenceIdeal.Hand

open Cert.ReferenceIdeal Cert.ReferenceIdeal.Gen Cert.Spec Cert.ReferenceIdeal.Step
open Idealize.ShloMosaic Idealize.ShloMosaic.TcCoe Idealize.SL.Sem

/-! ## The algebra: the solve's factor times a difference -/

/-- The reference applies the solve's factor to the values and to the scaled keys apart; over the reals that is the factor
    applied to their difference. -/
theorem wR_split (f : Fac) (S : Fin 128 → Fin 256 → ℝ) (i : Fin 64) (w : Fin 256) :
    (∑ s : Fin 64, f.Z i s * f.v s w) - ∑ c : Fin 128, (∑ s : Fin 64, f.Z i s * (f.X ⟨s.val, by omega⟩ c * f.ks)) * S c w = wR f S i w := by
  have h : ∑ c : Fin 128, (∑ s : Fin 64, f.Z i s * (f.X ⟨s.val, by omega⟩ c * f.ks)) * S c w
      = ∑ s : Fin 64, f.Z i s * (f.ks * ∑ c : Fin 128, f.X ⟨s.val, by omega⟩ c * S c w) := by
    simp only [Finset.sum_mul, Finset.mul_sum]
    rw [Finset.sum_comm]
    exact Finset.sum_congr rfl fun s _ => Finset.sum_congr rfl fun c _ => by ring
  rw [h, ← Finset.sum_sub_distrib]
  exact Finset.sum_congr rfl fun s _ => by ring

/-- The queries' scale, applied to both terms of the output, comes out. -/
theorem outO_split (f : Fac) (S : Fin 128 → Fin 256 → ℝ) (i : Fin 64) (w : Fin 256) :
    kappa * ((∑ c : Fin 128, f.qs * f.X ⟨64 + i.val, by omega⟩ c * S c w) + ∑ s : Fin 64, f.qs * f.Q i s * wR f S s w) = outO f S i w := by
  unfold outO
  simp only [mul_assoc, ← Finset.mul_sum]
  ring

/-! ## The states -/

variable (A : Args)

/-- The reference's state before each trip. -/
def refIt : ℕ → State Ideal
  | 0 => init A.h0 A.qs A.ks A.v A.zt A.qk A.xc A.kd A.dec
  | n + 1 => step n (refIt n)

theorem it_0 : ∀ n, (refIt A n).main_v35_0 = A_main_v30 A.qs A.ks A.v A.zt A.qk A.xc A.kd A.dec
  | 0 => rfl
  | n + 1 => it_0 n
theorem it_1 : ∀ n, (refIt A n).main_v35_1 = A_main_v27 A.qs A.ks A.v A.zt A.qk A.xc A.kd A.dec
  | 0 => rfl
  | n + 1 => it_1 n
theorem it_2 : ∀ n, (refIt A n).main_v35_2 = A_main_v28 A.qs A.ks A.v A.zt A.qk A.xc A.kd A.dec
  | 0 => rfl
  | n + 1 => it_2 n
theorem it_3 : ∀ n, (refIt A n).main_v35_3 = A_main_v32 A.qs A.ks A.v A.zt A.qk A.xc A.kd A.dec
  | 0 => rfl
  | n + 1 => it_3 n
theorem it_4 : ∀ n, (refIt A n).main_v35_4 = A_main_v33 A.qs A.ks A.v A.zt A.qk A.xc A.kd A.dec
  | 0 => rfl
  | n + 1 => it_4 n
theorem it_5 : ∀ n, (refIt A n).main_v35_5 = A_main_v17 A.qs A.ks A.v A.zt A.qk A.xc A.kd A.dec
  | 0 => rfl
  | n + 1 => it_5 n

variable (hA : A.Real) (b g : Fin 2) (h : Fin 8)
include hA

/-! ## The loop's constants over the reals -/

theorem v4_coe (t : Fin 14) (i s : Fin 64) : A_main_v4 (F := Ideal) A.qs A.ks A.v A.zt A.qk A.xc A.kd A.dec (ix5 t b (hd g h) i s) = ((fac A b g h t).Z i s : EReal) := by
  rw [v4_at]; exact hA.zt _
theorem v26_coe (t : Fin 14) (i : Fin 64) (c : Fin 128) : A_main_v26 (F := Ideal) A.qs A.ks A.v A.zt A.qk A.xc A.kd A.dec (ix5 t b (hd g h) i c)
    = (((fac A b g h t).X ⟨i.val, by omega⟩ c * (fac A b g h t).ks : ℝ) : EReal) := by
  rw [v26_at, EReal.coe_mul]; exact congrArg₂ _ (hA.xc _) (hA.ks _)
theorem v20_coe (t : Fin 14) (i : Fin 64) (w : Fin 256) : A_main_v20 (F := Ideal) A.qs A.ks A.v A.zt A.qk A.xc A.kd A.dec (ix5 t b (hd g h) i w) = ((fac A b g h t).v i w : EReal) := by
  rw [v20_at]; exact hA.v _
theorem v27_coe (t : Fin 14) (i : Fin 64) (c : Fin 128) : A_main_v27 (F := Ideal) A.qs A.ks A.v A.zt A.qk A.xc A.kd A.dec (ix5 t b (hd g h) i c)
    = ((∑ s : Fin 64, (fac A b g h t).Z i s * ((fac A b g h t).X ⟨s.val, by omega⟩ c * (fac A b g h t).ks) : ℝ) : EReal) := by
  rw [v27_at]
  exact coe_dot _ _ _ _ (fun s => v4_coe A hA b g h t i s) (fun s => v26_coe A hA b g h t s c)
theorem v28_coe (t : Fin 14) (i : Fin 64) (w : Fin 256) : A_main_v28 (F := Ideal) A.qs A.ks A.v A.zt A.qk A.xc A.kd A.dec (ix5 t b (hd g h) i w)
    = ((∑ s : Fin 64, (fac A b g h t).Z i s * (fac A b g h t).v s w : ℝ) : EReal) := by
  rw [v28_at]
  exact coe_dot _ _ _ _ (fun s => v4_coe A hA b g h t i s) (fun s => v20_coe A hA b g h t s w)
theorem v30_coe (t : Fin 14) (i : Fin 64) (c : Fin 128) : A_main_v30 (F := Ideal) A.qs A.ks A.v A.zt A.qk A.xc A.kd A.dec (ix5 t b (hd g h) i c)
    = (((fac A b g h t).qs * (fac A b g h t).X ⟨64 + i.val, by omega⟩ c : ℝ) : EReal) := by
  rw [v30_at, EReal.coe_mul]; exact congrArg₂ _ (hA.qs _) (hA.xc _)
theorem v32_coe (t : Fin 14) (i s : Fin 64) : A_main_v32 (F := Ideal) A.qs A.ks A.v A.zt A.qk A.xc A.kd A.dec (ix5 t b (hd g h) i s)
    = (((fac A b g h t).qs * (fac A b g h t).Q i s : ℝ) : EReal) := by
  rw [v32_at, v7_at, EReal.coe_mul]; exact congrArg₂ _ (hA.qs _) (hA.qk _)
theorem v33_coe (t : Fin 14) (c : Fin 128) (s : Fin 64) : A_main_v33 (F := Ideal) A.qs A.ks A.v A.zt A.qk A.xc A.kd A.dec (ix5 t b (hd g h) c s) = ((fac A b g h t).K c s : EReal) := by
  rw [v33_at]; exact hA.kd _
theorem v17_coe (t : Fin 14) (c : Fin 128) : A_main_v17 (F := Ideal) A.qs A.ks A.v A.zt A.qk A.xc A.kd A.dec (ix4 t b (hd g h) c) = ((fac A b g h t).d c : EReal) := by
  rw [v17_at]; exact hA.dec _

/-! ## A trip over the reals -/

section
variable (j : ℕ) (hj : j < 14)
  (hS : ∀ (c : Fin 128) (w : Fin 256), (refIt A j).main_v35_7 (ix4 b (hd g h) c w) = (state A b g h j c w : EReal))
include hj hS

/-- A trip's corrected values. -/
theorem b36_coe (i : Fin 64) (w : Fin 256) : b36 j (refIt A j) (ix4 b (hd g h) i w) = (wR (fac A b g h ⟨j, hj⟩) (state A b g h j) i w : EReal) := by
  rw [b36_at, ← wR_split, EReal.coe_sub]
  refine congrArg₂ _ ?_ ?_
  · rw [b17_at j hj, it_2]; exact v28_coe A hA b g h ⟨j, hj⟩ i w
  · exact coe_dot _ _ _ _ (fun c => by rw [b11_at j hj, it_1]; exact v27_coe A hA b g h ⟨j, hj⟩ i c) (fun c => hS c w)

/-- A trip's output rows. -/
theorem b42_coe (i : Fin 64) (w : Fin 256) : b42 j (refIt A j) (ix4 b (hd g h) i w) = (outO (fac A b g h ⟨j, hj⟩) (state A b g h j) i w : EReal) := by
  rw [b42_at, ← outO_split, kappa_eq, EReal.coe_mul, EReal.coe_add]
  refine congrArg₂ _ rfl (congrArg₂ _ ?_ ?_)
  · exact coe_dot _ _ _ _ (fun c => by rw [b5_at j hj, it_0]; exact v30_coe A hA b g h ⟨j, hj⟩ i c) (fun c => hS c w)
  · exact coe_dot _ _ _ _ (fun s => by rw [b23_at j hj, it_3]; exact v32_coe A hA b g h ⟨j, hj⟩ i s) (fun s => b36_coe A hA b g h j hj hS s w)

/-- A trip's new state. -/
theorem b47_coe (c : Fin 128) (w : Fin 256) : b47 j (refIt A j) (ix4 b (hd g h) c w) = (nextS (fac A b g h ⟨j, hj⟩) (state A b g h j) c w : EReal) := by
  rw [b47_at, nextS, EReal.coe_add, EReal.coe_mul]
  refine congrArg₂ _ (congrArg₂ _ ?_ (hS c w)) ?_
  · rw [b34_at j hj, it_5]; exact v17_coe A hA b g h ⟨j, hj⟩ c
  · exact coe_dot _ _ _ _ (fun s => by rw [b29_at j hj, it_4]; exact v33_coe A hA b g h ⟨j, hj⟩ c s) (fun s => b36_coe A hA b g h j hj hS s w)
end

/-! ## All the trips -/

/-- The state carried is the recurrence's. -/
theorem it_7 (n : ℕ) (hn : n ≤ 14) : ∀ (c : Fin 128) (w : Fin 256),
    (refIt A n).main_v35_7 (ix4 b (hd g h) c w) = (state A b g h n c w : EReal) := by
  induction n with
  | zero => intro c w; exact hA.h0 _
  | succ n ih =>
    intro c w
    refine (b47_coe A hA b g h n hn (ih (by omega)) c w).trans ?_
    exact congrArg (fun S : Fin 128 → Fin 256 → ℝ => ((S c w : ℝ) : EReal)) (state_succ A b g h ⟨n, hn⟩).symm

/-- The outputs stacked so far are the recurrence's. -/
theorem it_8 (n : ℕ) (hn : n ≤ 14) (t : Fin 14) (ht : t.val < n) (i : Fin 64) (w : Fin 256) :
    (refIt A n).main_v35_8 (ix5 t b (hd g h) i w) = (outR A b g h t i w : EReal) := by
  induction n with
  | zero => omega
  | succ n ih =>
    show b53 n (refIt A n) (ix5 t b (hd g h) i w) = _
    rw [b53_at n hn]
    by_cases e : t.val = n
    · subst e
      rw [if_pos rfl]
      exact b42_coe A hA b g h t.val t.isLt (it_7 A hA b g h t.val (by omega)) i w
    · rw [if_neg e]
      exact ih (by omega) (by omega)

/-- The first result. -/
theorem ref_o : R_main_v38 (refIt A 14) = oArr A := by
  funext y
  obtain ⟨b, r, q, rfl⟩ : ∃ b r q, y = ix3 b r q := ⟨_, _, _, eq_ix3 y⟩
  have r1 : r.val < 896 := r.isLt
  have q1 : q.val < 4096 := q.isLt
  have hr : r.val = 64 * (r.val / 64) + r.val % 64 := by omega
  have hq : q.val = 2048 * (q.val / 2048) + (256 * (q.val % 2048 / 256) + q.val % 256) := by omega
  have e1 := R_at (refIt A 14) b ⟨q.val / 2048, by omega⟩ ⟨q.val % 2048 / 256, by omega⟩ ⟨r.val / 64, by omega⟩ ⟨r.val % 64, by omega⟩ ⟨q.val % 256, by omega⟩ r q hr hq
  have e2 := oArr_at A b ⟨q.val / 2048, by omega⟩ ⟨q.val % 2048 / 256, by omega⟩ ⟨r.val / 64, by omega⟩ ⟨r.val % 64, by omega⟩ ⟨q.val % 256, by omega⟩ r q hr hq
  exact e1.trans ((it_8 A hA b _ _ 14 le_rfl _ (by show r.val / 64 < 14; omega) _ _).trans e2.symm)

/-- The second result. -/
theorem ref_s : (refIt A 14).main_v35_7 = sArr A := by
  funext y
  obtain ⟨b, r, c, w, rfl⟩ : ∃ b r c w, y = ix4 b r c w := ⟨_, _, _, _, eq_ix4 y⟩
  have r1 : r.val < 16 := r.isLt
  have hr : r.val = 8 * (r.val / 8) + r.val % 8 := by omega
  have e : r = hd ⟨r.val / 8, by omega⟩ ⟨r.val % 8, by omega⟩ := Fin.ext hr
  have e1 := it_7 A hA b ⟨r.val / 8, by omega⟩ ⟨r.val % 8, by omega⟩ 14 le_rfl c w
  have e2 := sArr_at A b ⟨r.val / 8, by omega⟩ ⟨r.val % 8, by omega⟩ r hr c w
  rw [← e] at e1
  exact e1.trans e2.symm
omit hA

/-! ## The run -/

variable (m : (ℓ : Loc nD τ sig) → Buf (Elt Ideal) ℓ) (ρ : Dev nD → PrngReg)

/-- The arguments the program is launched on. -/
def argsOf (c : Dev nD) : Args where
  qs := m ((c.tc : Thread nD τ).loc main_arg0)
  ks := m ((c.tc : Thread nD τ).loc main_arg1)
  v := m ((c.tc : Thread nD τ).loc main_arg2)
  zt := m ((c.tc : Thread nD τ).loc main_arg3)
  qk := m ((c.tc : Thread nD τ).loc main_arg4)
  xc := m ((c.tc : Thread nD τ).loc main_arg5)
  kd := m ((c.tc : Thread nD τ).loc main_arg6)
  dec := m ((c.tc : Thread nD τ).loc main_arg7)
  h0 := m ((c.tc : Thread nD τ).loc main_arg8)

/-- The reference's run on real arguments: both results, and the arguments unchanged. -/
theorem run (hA : ∀ c, (argsOf m c).Real) :
    θ_run defs (onTc (τ := τ) (main (F := Ideal))) ⟨m, fun _ => 0, ρ⟩ (fun r => ∀ c : Dev nD,
      r.2.mem ((c.tc : Thread nD τ).loc main_v38) = oArr (argsOf m c)
      ∧ r.2.mem ((c.tc : Thread nD τ).loc main_v35_7) = sArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (ref_o _ (hA c)), (h c).2.1.trans (ref_s _ (hA c)), (h c).2.2⟩)
    (run_iter m ρ (fun c => refIt (argsOf m c)) (fun _ => rfl) (fun _ _ => rfl))

/-- The reference's frame, on any arguments: it ends, its arguments unchanged and every semaphore counter zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2, sem_eq_zero_of_no_sems (by decide) r.2⟩)
    (run_iter m ρ (fun c => refIt (argsOf m c)) (fun _ => rfl) (fun _ _ => rfl))

end Cert.ReferenceIdeal.Hand

end
-- ==== Proof.Finite.lean ====
/-
  What the precondition says: every argument entry is a real number.
-/
module

public import proofs.«01_k».proof.Defs
public import proofs.«01_k».proof.Proof.Gen.Pre_finite
public import proofs.«01_k».proof.Proof.KerVal
public import Idealize.ShloMosaic.Lib.Pointwise

@[expose] public section

noncomputable section

namespace Cert.Spec

open Idealize.ShloMosaic Idealize.SL.Sem

/-- An extended real whose absolute value is below the infinity is a real number. -/
theorem coe_of_abs_lt {x B : EReal} (hB : B = ⊤) (h : Ideal.cmp .olt (max x (-x)) B = 1#1) : x = ((EReal.toReal x : ℝ) : EReal) := by
  subst hB
  have h1 : max x (-x) < ⊤ := (Ideal.cmp_olt_eq_one _ _).mp h
  rw [max_lt_iff] at h1
  refine (EReal.coe_toReal h1.1.ne ?_).symm
  rintro rfl
  simp at h1

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- The compare of a 32-bit array with the infinity, all ones: real entries. -/
theorem coes_f32 {s : Shape} {x : FVec Ideal s .f32} {c : FVec Ideal s .f32} (hc : ∀ j, c j = Ideal.ofBits .f32 0x7F800000#32)
    (h : cmpf .olt (Host.absf x) c = fun _ => 1#1) : Coes x := fun j =>
  coe_of_abs_lt ((hc j).trans inf_f32) (congrFun h j)

/-- The same of a 16-bit array. -/
theorem coes_bf16 {s : Shape} {x : FVec Ideal s .bf16} {c : FVec Ideal s .bf16} (hc : ∀ j, c j = Ideal.ofBits .bf16 0x7F80#16)
    (h : cmpf .olt (Host.absf x) c = fun _ => 1#1) : Coes x := fun j =>
  coe_of_abs_lt ((hc j).trans inf_bf16) (congrFun h j)

/-- Under the precondition the kernel's arguments are real. -/
theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.Hand.argsOf m c).Real := by
  obtain ⟨h0, h1, h2, h3, h4, h5, h6, h7, h8⟩ := h c
  exact ⟨coes_f32 (fun _ => rfl) h0, coes_f32 (fun _ => rfl) h1, coes_bf16 (fun _ => rfl) h2, coes_f32 (fun _ => rfl) h3,
    coes_f32 (fun _ => rfl) h4, coes_bf16 (fun _ => rfl) h5, coes_bf16 (fun _ => rfl) h6, coes_f32 (fun _ => rfl) h7,
    coes_f32 (fun _ => rfl) h8⟩

end Cert.Spec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.K.Run
public import proofs.«01_k».proof.Proof.Run
public import proofs.«01_k».proof.Proof.KerVal
public import proofs.«01_k».proof.Proof.RefVal
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Equal arguments give equal runs: on real arguments the kernel and the reference both end with the recurrence's outputs and
    last states. -/
theorem algebraic : Cert.algebraic_KernelIdeal_ReferenceIdeal_pre_finite := by
  intro m ρ m' ρ' hpre hargs
  have hA := Cert.Spec.real_of_pre m hpre
  have e : ∀ c, Cert.ReferenceIdeal.Hand.argsOf m' c = Cert.KernelIdeal.Hand.argsOf m c := fun c => by
    obtain ⟨h0, h1, h2, h3, h4, h5, h6, h7, h8⟩ := hargs c
    unfold Cert.ReferenceIdeal.Hand.argsOf
    rw [h0, h1, h2, h3, h4, h5, h6, h7, h8]
    rfl
  refine ⟨fun c => Cert.Spec.oArr (Cert.KernelIdeal.Hand.argsOf m c), fun c => Cert.Spec.sArr (Cert.KernelIdeal.Hand.argsOf m c),
    Cert.KernelIdeal.Hand.run m ρ hA, ?_⟩
  have h := Cert.ReferenceIdeal.Hand.run m' ρ' (fun c => by rw [e c]; exact hA c)
  simp only [e] at h
  exact h

/-- The kernel and its ideal reading run without fault and keep their arguments, and so does the reference; the ideal reading is
    the kernel read over the extended reals; on real arguments it computes the reference's two results. -/
theorem claim : Cert.Claim := ⟨Cert.Kernel.Gen.facts, Cert.KernelIdeal.Gen.facts, Cert.ReferenceIdeal.Gen.facts, Cert.Pre_finite.Gen.facts,
  fun m ρ _ => Cert.Kernel.Hand.frame (F := Bits) m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  trivial, algebraic⟩

end Cert.Proof

end
